-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)) (v6 : (c : Dev Cert.Kernel2Ideal.nD) → Buf (Elt Ideal) ((c.tc : Thread Cert.Kernel2Ideal.nD Cert.Kernel2Ideal.τ).loc Cert.Kernel2Ideal.main_v20_6)) (v7 : (c : Dev Cert.Kernel2Ideal.nD) → Buf (Elt Ideal) ((c.tc : Thread Cert.Kernel2Ideal.nD Cert.Kernel2Ideal.τ).loc Cert.Kernel2Ideal.main_v20_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_v20_6) = v6 c
          ∧ r.2.mem ((c.tc : Thread Cert.Kernel2Ideal.nD Cert.Kernel2Ideal.τ).loc Cert.Kernel2Ideal.main_v20_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_v45) = v3 c
          ∧ r.2.mem ((c.tc : Thread Cert.Reference2Ideal.nD Cert.Reference2Ideal.τ).loc Cert.Reference2Ideal.main_v47) = v4 c
          ∧ r.2.mem ((c.tc : Thread Cert.Reference2Ideal.nD Cert.Reference2Ideal.τ).loc Cert.Reference2Ideal.main_v49) = v5 c
          ∧ r.2.mem ((c.tc : Thread Cert.Reference2Ideal.nD Cert.Reference2Ideal.τ).loc Cert.Reference2Ideal.main_v51) = v6 c
          ∧ r.2.mem ((c.tc : Thread Cert.Reference2Ideal.nD Cert.Reference2Ideal.τ).loc Cert.Reference2Ideal.main_v52) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16384x1024 : Shape := ⟨2, ![16384, 1024]⟩
abbrev S1x1024 : Shape := ⟨2, ![1, 1024]⟩
abbrev S1024x5632 : Shape := ⟨2, ![1024, 5632]⟩
abbrev S1x3x5632 : Shape := ⟨3, ![1, 3, 5632]⟩
abbrev S1x5632 : Shape := ⟨2, ![1, 5632]⟩
abbrev S2816x1024 : Shape := ⟨2, ![2816, 1024]⟩
abbrev S1024 : Shape := ⟨1, ![1024]⟩
abbrev S3x5632 : Shape := ⟨2, ![3, 5632]⟩
abbrev S1024x1024 : Shape := ⟨2, ![1024, 1024]⟩
abbrev S1032x256 : Shape := ⟨2, ![1032, 256]⟩
abbrev S8x5632 : Shape := ⟨2, ![8, 5632]⟩
abbrev S1024x2816 : Shape := ⟨2, ![1024, 2816]⟩
abbrev S1024x1 : Shape := ⟨2, ![1024, 1]⟩
abbrev S1024x256 : Shape := ⟨2, ![1024, 256]⟩
abbrev S8x256 : Shape := ⟨2, ![8, 256]⟩
abbrev S1x256 : Shape := ⟨2, ![1, 256]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .bf16⟩
  | .hbm, ⟨3, _⟩ => ⟨S1x3x5632, .f32⟩
  | .hbm, ⟨4, _⟩ => ⟨S1x5632, .f32⟩
  | .hbm, ⟨5, _⟩ => ⟨S2816x1024, .bf16⟩
  | .hbm, ⟨6, _⟩ => ⟨S1024, .f32⟩
  | .hbm, ⟨7, _⟩ => ⟨S3x5632, .f32⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1032x256, .f32⟩
  | .local _ .vmem, ⟨12, _⟩ => ⟨S8x5632, .f32⟩
  | .local _ .vmem, ⟨13, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x1024 : Shape := ⟨2, ![16384, 1024]⟩
abbrev S1x1024 : Shape := ⟨2, ![1, 1024]⟩
abbrev S1024x5632 : Shape := ⟨2, ![1024, 5632]⟩
abbrev S1x3x5632 : Shape := ⟨3, ![1, 3, 5632]⟩
abbrev S1x5632 : Shape := ⟨2, ![1, 5632]⟩
abbrev S2816x1024 : Shape := ⟨2, ![2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S3x5632 : Shape := ⟨2, ![3, 5632]⟩
abbrev S5632 : Shape := ⟨1, ![5632]⟩
abbrev S16384x5632 : Shape := ⟨2, ![16384, 5632]⟩
abbrev S16386x5632 : Shape := ⟨2, ![16386, 5632]⟩
abbrev S16384x2816 : Shape := ⟨2, ![16384, 2816]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .bf16⟩
  | .hbm, ⟨3, _⟩ => ⟨S1x3x5632, .f32⟩
  | .hbm, ⟨4, _⟩ => ⟨S1x5632, .f32⟩
  | .hbm, ⟨5, _⟩ => ⟨S2816x1024, .bf16⟩
  | .hbm, ⟨6, _⟩ => ⟨S1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S3x5632, .f32⟩
  | .hbm, ⟨25, _⟩ => ⟨S5632, .f32⟩
  | .hbm, ⟨26, _⟩ => ⟨S1024x5632, .f32⟩
  | .hbm, ⟨27, _⟩ => ⟨S16384x5632, .f32⟩
  | .hbm, ⟨28, _⟩ => ⟨S_, .i32⟩
  | .hbm, ⟨29, _⟩ => ⟨S_, .f32⟩
  | .hbm, ⟨30, _⟩ => ⟨S16386x5632, .f32⟩
  | .hbm, ⟨31, _⟩ => ⟨S16384x5632, .f32⟩
  | .hbm, ⟨32, _⟩ => ⟨S1x5632, .f32⟩
  | .hbm, ⟨33, _⟩ => ⟨S5632, .f32⟩
  | .hbm, ⟨34, _⟩ => ⟨S1x5632, .f32⟩
  | .hbm, ⟨35, _⟩ => ⟨S16384x5632, .f32⟩
  | .hbm, ⟨36, _⟩ => ⟨S16384x5632, .f32⟩
  | .hbm, ⟨37, _⟩ => ⟨S_, .f32⟩
  | .hbm, ⟨38, _⟩ => ⟨S16384x5632, .f32⟩
  | .hbm, ⟨39, _⟩ => ⟨S16384x5632, .f32⟩
  | .hbm, ⟨40, _⟩ => ⟨S16384x5632, .f32⟩
  | .hbm, ⟨41, _⟩ => ⟨S1x5632, .f32⟩
  | .hbm, ⟨42, _⟩ => ⟨S5632, .f32⟩
  | .hbm, ⟨43, _⟩ => ⟨S1x5632, .f32⟩
  | .hbm, ⟨44, _⟩ => ⟨S16384x5632, .f32⟩
  | .hbm, ⟨45, _⟩ => ⟨S16384x5632, .f32⟩
  | .hbm, ⟨46, _⟩ => ⟨S16384x5632, .f32⟩
  | .hbm, ⟨47, _⟩ => ⟨S16384x5632, .f32⟩
  | .hbm, ⟨48, _⟩ => ⟨S1x5632, .f32⟩
  | .hbm, ⟨49, _⟩ => ⟨S5632, .f32⟩
  | .hbm, ⟨50, _⟩ => ⟨S1x5632, .f32⟩
  | .hbm, ⟨51, _⟩ => ⟨S16384x5632, .f32⟩
  | .hbm, ⟨52, _⟩ => ⟨S16384x5632, .f32⟩
  | .hbm, ⟨53, _⟩ => ⟨S16384x5632, .f32⟩
  | .hbm, ⟨54, _⟩ => ⟨S1x5632, .f32⟩
  | .hbm, ⟨55, _⟩ => ⟨S16384x5632, .f32⟩
  | .hbm, ⟨56, _⟩ => ⟨S16384x5632, .f32⟩
  | .hbm, ⟨57, _⟩ => ⟨S16384x2816, .f32⟩
  | .hbm, ⟨58, _⟩ => ⟨S16384x2816, .f32⟩
  | .hbm, ⟨59, _⟩ => ⟨S_, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S_, .f32⟩
  | .hbm, ⟨64, _⟩ => ⟨S16384x2816, .f32⟩
  | .hbm, ⟨65, _⟩ => ⟨S16384x2816, .f32⟩
  | .hbm, ⟨66, _⟩ => ⟨S16384x2816, .f32⟩
  | .hbm, ⟨67, _⟩ => ⟨S16384x2816, .f32⟩
  | .hbm, ⟨68, _⟩ => ⟨S16384x2816, .f32⟩
  | .hbm, ⟨69, _⟩ => ⟨S2816x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S1x1024, .f32⟩
  | .hbm, ⟨86, _⟩ => ⟨S16384x1024, .f32⟩
  | .hbm, ⟨87, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_cst_7 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Kernel2.lean ====
abbrev S1x256x1024 : Shape := ⟨3, ![1, 256, 1024]⟩
abbrev S1x1024 : Shape := ⟨2, ![1, 1024]⟩
abbrev S1x1024x5120 : Shape := ⟨3, ![1, 1024, 5120]⟩
abbrev S1x4x64x64 : Shape := ⟨4, ![1, 4, 64, 64]⟩
abbrev S1x1024x512 : Shape := ⟨3, ![1, 1024, 512]⟩
abbrev S1x512x1024 : Shape := ⟨3, ![1, 512, 1024]⟩
abbrev S1x1024x1024 : Shape := ⟨3, ![1, 1024, 1024]⟩
abbrev S1024x5120 : Shape := ⟨2, ![1024, 5120]⟩
abbrev S256x1024 : Shape := ⟨2, ![256, 1024]⟩
abbrev S512x1024 : Shape := ⟨2, ![512, 1024]⟩
abbrev S1024x1024 : Shape := ⟨2, ![1024, 1024]⟩
abbrev S4x64x64 : Shape := ⟨3, ![4, 64, 64]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1024x512 : Shape := ⟨2, ![1024, 512]⟩
abbrev S2x256x256 : Shape := ⟨3, ![2, 256, 256]⟩
abbrev S128x5120 : Shape := ⟨2, ![128, 5120]⟩
abbrev S32x1024 : Shape := ⟨2, ![32, 1024]⟩
abbrev S64x1024 : Shape := ⟨2, ![64, 1024]⟩
abbrev S128x1024 : Shape := ⟨2, ![128, 1024]⟩
abbrev S32x256 : Shape := ⟨2, ![32, 256]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 38
  | .vmem => 29
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x5120, .f32⟩
  | .hbm, ⟨3, _⟩ => ⟨S1x4x64x64, .f32⟩
  | .hbm, ⟨4, _⟩ => ⟨S1x1024x512, .f32⟩
  | .hbm, ⟨5, _⟩ => ⟨S1x256x1024, .f32⟩
  | .hbm, ⟨6, _⟩ => ⟨S1x512x1024, .f32⟩
  | .hbm, ⟨7, _⟩ => ⟨S1x256x1024, .f32⟩
  | .hbm, ⟨8, _⟩ => ⟨S1x1024x1024, .f32⟩
  | .hbm, ⟨9, _⟩ => ⟨S1024x5120, .f32⟩
  | .hbm, ⟨10, _⟩ => ⟨S256x1024, .f32⟩
  | .hbm, ⟨11, _⟩ => ⟨S512x1024, .f32⟩
  | .hbm, ⟨12, _⟩ => ⟨S256x1024, .f32⟩
  | .hbm, ⟨13, _⟩ => ⟨S1024x1024, .f32⟩
  | .hbm, ⟨14, _⟩ => ⟨S4x64x64, .f32⟩
  | .hbm, ⟨15, _⟩ => ⟨S4x4, .i32⟩
  | .hbm, ⟨16, _⟩ => ⟨S4x4, .i32⟩
  | .hbm, ⟨17, _⟩ => ⟨S_, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S4x4, .f32⟩
  | .hbm, ⟨22, _⟩ => ⟨S4x1x4x1, .f32⟩
  | .hbm, ⟨23, _⟩ => ⟨S4x64x1x64, .f32⟩
  | .hbm, ⟨24, _⟩ => ⟨S4x64x4x64, .f32⟩
  | .hbm, ⟨25, _⟩ => ⟨S4x64x4x64, .f32⟩
  | .hbm, ⟨26, _⟩ => ⟨S4x64x4x64, .f32⟩
  | .hbm, ⟨27, _⟩ => ⟨S256x256, .f32⟩
  | .hbm, ⟨28, _⟩ => ⟨S256x1024, .f32⟩
  | .hbm, ⟨29, _⟩ => ⟨S1024x512, .f32⟩
  | .hbm, ⟨30, _⟩ => ⟨S256x256, .bf16⟩
  | .hbm, ⟨31, _⟩ => ⟨S2x256x256, .bf16⟩
  | .hbm, ⟨32, _⟩ => ⟨S1024x5120, .bf16⟩
  | .hbm, ⟨33, _⟩ => ⟨S256x1024, .bf16⟩
  | .hbm, ⟨34, _⟩ => ⟨S512x1024, .bf16⟩
  | .hbm, ⟨35, _⟩ => ⟨S256x1024, .bf16⟩
  | .hbm, ⟨36, _⟩ => ⟨S1024x1024, .bf16⟩
  | .hbm, ⟨37, _⟩ => ⟨S256x256, .bf16⟩
  | .local _ .vmem, ⟨0, _⟩ => ⟨S256x1024, .f32⟩
  | .local _ .vmem, ⟨1, _⟩ => ⟨S1x1024, .f32⟩
  | .local _ .vmem, ⟨2, _⟩ => ⟨S1024x512, .f32⟩
  | .local _ .vmem, ⟨3, _⟩ => ⟨S128x5120, .f32⟩
  | .local _ .vmem, ⟨4, _⟩ => ⟨S128x5120, .f32⟩
  | .local _ .vmem, ⟨5, _⟩ => ⟨S32x1024, .f32⟩
  | .local _ .vmem, ⟨6, _⟩ => ⟨S32x1024, .f32⟩
  | .local _ .vmem, ⟨7, _⟩ => ⟨S64x1024, .f32⟩
  | .local _ .vmem, ⟨8, _⟩ => ⟨S64x1024, .f32⟩
  | .local _ .vmem, ⟨9, _⟩ => ⟨S32x1024, .f32⟩
  | .local _ .vmem, ⟨10, _⟩ => ⟨S32x1024, .f32⟩
  | .local _ .vmem, ⟨11, _⟩ => ⟨S128x1024, .f32⟩
  | .local _ .vmem, ⟨12, _⟩ => ⟨S128x1024, .f32⟩
  | .local _ .vmem, ⟨13, _⟩ => ⟨S32x256, .f32⟩
  | .local _ .vmem, ⟨14, _⟩ => ⟨S32x256, .f32⟩
  | .local _ .vmem, ⟨15, _⟩ => ⟨S256x256, .bf16⟩
  | .local _ .vmem, ⟨16, _⟩ => ⟨S2x256x256, .bf16⟩
  | .local _ .vmem, ⟨17, _⟩ => ⟨S128x5120, .bf16⟩
  | .local _ .vmem, ⟨18, _⟩ => ⟨S128x5120, .bf16⟩
  | .local _ .vmem, ⟨19, _⟩ => ⟨S32x1024, .bf16⟩
  | .local _ .vmem, ⟨20, _⟩ => ⟨S32x1024, .bf16⟩
  | .local _ .vmem, ⟨21, _⟩ => ⟨S64x1024, .bf16⟩
  | .local _ .vmem, ⟨22, _⟩ => ⟨S64x1024, .bf16⟩
  | .local _ .vmem, ⟨23, _⟩ => ⟨S32x1024, .bf16⟩
  | .local _ .vmem, ⟨24, _⟩ => ⟨S32x1024, .bf16⟩
  | .local _ .vmem, ⟨25, _⟩ => ⟨S128x1024, .bf16⟩
  | .local _ .vmem, ⟨26, _⟩ => ⟨S128x1024, .bf16⟩
  | .local _ .vmem, ⟨27, _⟩ => ⟨S32x256, .bf16⟩
  | .local _ .vmem, ⟨28, _⟩ => ⟨S32x256, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev main_v20_6 : Ref sig .tc := ⟨.hbm, 36, rfl⟩
abbrev main_v20_7 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_23 : BitVec 32 := 0#32
  let v26 : BitVec 1 := Scalar.cmpi .ne v25 c0_i32_23
  v26

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x5120 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S1x256x1024 : Shape := ⟨3, ![1, 256, 1024]⟩
abbrev S1x1024 : Shape := ⟨2, ![1, 1024]⟩
abbrev S1x1024x5120 : Shape := ⟨3, ![1, 1024, 5120]⟩
abbrev S1x4x64x64 : Shape := ⟨4, ![1, 4, 64, 64]⟩
abbrev S1x1024x512 : Shape := ⟨3, ![1, 1024, 512]⟩
abbrev S1x512x1024 : Shape := ⟨3, ![1, 512, 1024]⟩
abbrev S1x1024x1024 : Shape := ⟨3, ![1, 1024, 1024]⟩
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x256 : Shape := ⟨2, ![256, 256]⟩
abbrev S256x128 : Shape := ⟨2, ![256, 128]⟩
abbrev S1x256x256 : Shape := ⟨3, ![1, 256, 256]⟩
abbrev S2x256x256 : Shape := ⟨3, ![2, 256, 256]⟩
abbrev S1x1x64x64 : Shape := ⟨4, ![1, 1, 64, 64]⟩
abbrev S64x64 : Shape := ⟨2, ![64, 64]⟩
abbrev S64x256 : Shape := ⟨2, ![64, 256]⟩
abbrev S1024x5120 : Shape := ⟨2, ![1024, 5120]⟩
abbrev S512x1024 : Shape := ⟨2, ![512, 1024]⟩
abbrev S1024x1024 : Shape := ⟨2, ![1024, 1024]⟩

abbrev nBuf : Space → Nat
  | .hbm => 74
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x5120, .f32⟩
  | .hbm, ⟨3, _⟩ => ⟨S1x4x64x64, .f32⟩
  | .hbm, ⟨4, _⟩ => ⟨S1x1024x512, .f32⟩
  | .hbm, ⟨5, _⟩ => ⟨S1x256x1024, .f32⟩
  | .hbm, ⟨6, _⟩ => ⟨S1x512x1024, .f32⟩
  | .hbm, ⟨7, _⟩ => ⟨S1x256x1024, .f32⟩
  | .hbm, ⟨8, _⟩ => ⟨S1x1024x1024, .f32⟩
  | .hbm, ⟨9, _⟩ => ⟨S256x1024, .f32⟩
  | .hbm, ⟨10, _⟩ => ⟨S1024, .f32⟩
  | .hbm, ⟨11, _⟩ => ⟨S256x1024, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S256x1024, .f32⟩
  | .hbm, ⟨23, _⟩ => ⟨S256x1024, .f32⟩
  | .hbm, ⟨24, _⟩ => ⟨S1x1024, .f32⟩
  | .hbm, ⟨25, _⟩ => ⟨S256x1024, .f32⟩
  | .hbm, ⟨26, _⟩ => ⟨S256x1024, .f32⟩
  | .hbm, ⟨27, _⟩ => ⟨S1024x512, .f32⟩
  | .hbm, ⟨28, _⟩ => ⟨S256x512, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x128, .f32⟩
  | .hbm, ⟨33, _⟩ => ⟨S256x128, .f32⟩
  | .hbm, ⟨34, _⟩ => ⟨S256x256, .f32⟩
  | .hbm, ⟨35, _⟩ => ⟨S256x128, .f32⟩
  | .hbm, ⟨36, _⟩ => ⟨S256x256, .f32⟩
  | .hbm, ⟨37, _⟩ => ⟨S1x256x256, .f32⟩
  | .hbm, ⟨38, _⟩ => ⟨S1x256x256, .f32⟩
  | .hbm, ⟨39, _⟩ => ⟨S2x256x256, .f32⟩
  | .hbm, ⟨40, _⟩ => ⟨S1x1x64x64, .f32⟩
  | .hbm, ⟨41, _⟩ => ⟨S64x64, .f32⟩
  | .hbm, ⟨42, _⟩ => ⟨S_, .i32⟩
  | .hbm, ⟨43, _⟩ => ⟨S_, .f32⟩
  | .hbm, ⟨44, _⟩ => ⟨S64x256, .f32⟩
  | .hbm, ⟨45, _⟩ => ⟨S1x1x64x64, .f32⟩
  | .hbm, ⟨46, _⟩ => ⟨S64x64, .f32⟩
  | .hbm, ⟨47, _⟩ => ⟨S_, .i32⟩
  | .hbm, ⟨48, _⟩ => ⟨S_, .f32⟩
  | .hbm, ⟨49, _⟩ => ⟨S64x256, .f32⟩
  | .hbm, ⟨50, _⟩ => ⟨S1x1x64x64, .f32⟩
  | .hbm, ⟨51, _⟩ => ⟨S64x64, .f32⟩
  | .hbm, ⟨52, _⟩ => ⟨S_, .i32⟩
  | .hbm, ⟨53, _⟩ => ⟨S_, .f32⟩
  | .hbm, ⟨54, _⟩ => ⟨S64x256, .f32⟩
  | .hbm, ⟨55, _⟩ => ⟨S1x1x64x64, .f32⟩
  | .hbm, ⟨56, _⟩ => ⟨S64x64, .f32⟩
  | .hbm, ⟨57, _⟩ => ⟨S_, .i32⟩
  | .hbm, ⟨58, _⟩ => ⟨S_, .f32⟩
  | .hbm, ⟨59, _⟩ => ⟨S64x256, .f32⟩
  | .hbm, ⟨60, _⟩ => ⟨S256x256, .f32⟩
  | .hbm, ⟨61, _⟩ => ⟨S256x256, .bf16⟩
  | .hbm, ⟨62, _⟩ => ⟨S2x256x256, .bf16⟩
  | .hbm, ⟨63, _⟩ => ⟨S1024x5120, .f32⟩
  | .hbm, ⟨64, _⟩ => ⟨S1024x5120, .bf16⟩
  | .hbm, ⟨65, _⟩ => ⟨S256x1024, .f32⟩
  | .hbm, ⟨66, _⟩ => ⟨S256x1024, .bf16⟩
  | .hbm, ⟨67, _⟩ => ⟨S512x1024, .f32⟩
  | .hbm, ⟨68, _⟩ => ⟨S512x1024, .bf16⟩
  | .hbm, ⟨69, _⟩ => ⟨S256x1024, .f32⟩
  | .hbm, ⟨70, _⟩ => ⟨S256x1024, .bf16⟩
  | .hbm, ⟨71, _⟩ => ⟨S1024x1024, .f32⟩
  | .hbm, ⟨72, _⟩ => ⟨S1024x1024, .bf16⟩
  | .hbm, ⟨73, _⟩ => ⟨S256x256, .bf16⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_call0_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_3 : Ref sig .tc := ⟨.hbm, 47, rfl⟩
abbrev main_call1_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_call2_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_call3_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Proof.RunKernel2Ideal.lean ====
/- One run of the body of the call that prepares the memory's keys and values and casts the weights:
   what it leaves in each of its buffers at the first point of the grid, where it computes the keys and
   values, and at every later point, where it leaves them alone. -/
module

public import proofs.«01_k».proof.Proof.Gen.Kernel2Ideal.Frame
public import proofs.«01_k».proof.Proof.Gen.Kernel2Ideal.Skeleton
public import Idealize.ShloMosaic.Lib.Pipeline.Value

@[expose] public section

set_option maxRecDepth 16384

noncomputable section

namespace Cert.Kernel2Ideal.Prep

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body computes the keys and values exactly at the first point. -/
theorem cond_first (t : Fin cfg0.N) : k0_cond1 (grid0.coords t) = 1#1 ↔ t.val % 8 = 0 := by
  have ht : t.val < 8 := Nat.lt_of_lt_of_eq t.isLt N_0
  have e0 : (grid0.coords t 0).val = t.val / 1 % 8 := Pipeline.Grid.coords_val t 0 (by decide) rfl
  show (Scalar.cmpi .ne (Scalar.extui (Scalar.cmpi .eq (BitVec.ofNat 32 (grid0.coords t 0).val) 0#32)) 0#32) = 1#1 ↔ t.val % 8 = 0
  simp only [e0]
  word_cmp

/-- The stores into the values, the last first. -/
abbrev vmL (x0 : Vec F S256x1024 .f32) (x1 : Vec F S1x1024 .f32) (x2 : Vec F S1024x512 .f32) : List (View.Piece (Elt F) S2x256x256 .bf16) :=
  [⟨Rect.unit (s := S2x256x256) ![1, 0, 128] S1x256x128.size inb_S2x256x256_S1x256x128_1_0_128, k0_pay2⟩,
   ⟨Rect.unit (s := S2x256x256) ![1, 0, 0] S1x256x128.size inb_S2x256x256_S1x256x128_1_0_0, k0_pay1 (k0_pay7 x0 x1 x2)⟩,
   ⟨Rect.unit (s := S2x256x256) ![0, 0, 128] S1x256x128.size inb_S2x256x256_S1x256x128_0_0_128, k0_pay6⟩,
   ⟨Rect.unit (s := S2x256x256) ![0, 0, 0] S1x256x128.size inb_S2x256x256_S1x256x128_0_0_0, k0_pay5 x0 x1 x2⟩]
theorem vmL_cover (x0 : Vec F S256x1024 .f32) (x1 : Vec F S1x1024 .f32) (x2 : Vec F S1024x512 .f32) (y : S2x256x256.Idx) :
    ∃ p ∈ vmL x0 x1 x2, y ∈ p.1.set := View.cover_of_tiledL (vmL x0 x1 x2) S1x256x128.size (by sl_kernel_rfl) y
/-- The values the first point leaves. -/
def vmOf (x0 : Vec F S256x1024 .f32) (x1 : Vec F S1x1024 .f32) (x2 : Vec F S1024x512 .f32) : Vec F S2x256x256 .bf16 := View.canon (vmL x0 x1 x2)

theorem off_zero : (![0, 0] : Fin 2 → ℕ) = fun _ => 0 := by funext a; fin_cases a <;> rfl

/-- A load of a whole buffer gives what the buffer holds. -/
theorem load_all {s : Shape} {e : EltTy} {arg : Memref sig .tc .vmem s e} (h : arg.IsWhole) (x : Vec F s e) {off : Fin s.rank → ℕ} (ho : off = fun _ => 0)
    (inb : ∀ a, off a + s.size a ≤ s.size a) :
    View.readAt (Elt F) arg.view (Rect.unit (s := s) off s.size inb).toLoadRect (h.unread x) = x :=
  (congrArg (fun z => View.ld z (Rect.unit (s := s) off s.size inb)) (h.read_unread x)).trans (View.ld_unit_zero ho inb x)

/-- A store of a whole buffer leaves what it stores. -/
theorem store_all {s : Shape} {e : EltTy} (arg : Memref sig .tc .vmem s e) (f : arg.view.ty.Contents (Elt F)) (x : Vec F s e) {off : Fin s.rank → ℕ} (ho : off = fun _ => 0)
    (inb : ∀ a, off a + s.size a ≤ s.size a) :
    arg.view.read (Elt F) (arg.view.writes (Elt F) f [⟨Rect.unit (s := s) off s.size inb, x⟩]) = x :=
  (View.read_writes_eq_canon _ _ _ fun y => ⟨_, List.mem_singleton_self _, View.mem_set_unit_zero ho inb y⟩).trans (View.canon_unit_zero ho inb x)

set_option maxHeartbeats 2000000 in
/-- At the first point. -/
theorem runA (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x512 .f32) (harg3 : arg3.IsWhole) (arg4 : Memref sig .tc .vmem S128x5120 .f32) (harg4 : arg4.IsWhole) (arg5 : Memref sig .tc .vmem S32x1024 .f32) (harg5 : arg5.IsWhole) (arg6 : Memref sig .tc .vmem S64x1024 .f32) (harg6 : arg6.IsWhole) (arg7 : Memref sig .tc .vmem S32x1024 .f32) (harg7 : arg7.IsWhole) (arg8 : Memref sig .tc .vmem S128x1024 .f32) (harg8 : arg8.IsWhole) (arg9 : Memref sig .tc .vmem S32x256 .f32) (harg9 : arg9.IsWhole) (arg10 : Memref sig .tc .vmem S256x256 .bf16) (harg10 : arg10.IsWhole) (arg11 : Memref sig .tc .vmem S2x256x256 .bf16) (harg11 : arg11.IsWhole) (arg12 : Memref sig .tc .vmem S128x5120 .bf16) (harg12 : arg12.IsWhole) (arg13 : Memref sig .tc .vmem S32x1024 .bf16) (harg13 : arg13.IsWhole) (arg14 : Memref sig .tc .vmem S64x1024 .bf16) (harg14 : arg14.IsWhole) (arg15 : Memref sig .tc .vmem S32x1024 .bf16) (harg15 : arg15.IsWhole) (arg16 : Memref sig .tc .vmem S128x1024 .bf16) (harg16 : arg16.IsWhole) (arg17 : Memref sig .tc .vmem S32x256 .bf16) (harg17 : arg17.IsWhole) (hc : k0_cond1 i = 1#1)
    (x0 : Vec F S256x1024 .f32) (x1 : Vec F S1x1024 .f32) (x2 : Vec F S1024x512 .f32) (x3 : Vec F S128x5120 .f32) (x4 : Vec F S32x1024 .f32) (x5 : Vec F S64x1024 .f32) (x6 : Vec F S32x1024 .f32) (x7 : Vec F S128x1024 .f32) (x8 : Vec F S32x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay4 x0 x1 x2) ∗ owns (c : Thread nD τ) arg11 fullShare (vmOf x0 x1 x2) ∗ owns (c : Thread nD τ) arg12 fullShare (k0_pay8 x3) ∗ owns (c : Thread nD τ) arg13 fullShare (k0_pay9 x4) ∗ owns (c : Thread nD τ) arg14 fullShare (k0_pay10 x5) ∗ owns (c : Thread nD τ) arg15 fullShare (k0_pay11 x6) ∗ owns (c : Thread nD τ) arg16 fullShare (k0_pay12 x7) ∗ owns (c : Thread nD τ) arg17 fullShare (k0_pay13 x8)) -∗ K ⟨⟩))
    ⊢ wp frame (wpE (defs₀ (F := F)) Variants.none c none) E (cc0_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_prep_eq_skeleton]; unfold cc0_prep_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    · ipureintro
      exact (store_all arg10 _ _ off_zero _).trans (by rw [load_all harg1 x0 off_zero, load_all harg2 x1 off_zero, load_all harg3 x2 off_zero])
  isplitl [H10]
  · iexists _; isplitr; swap; · iexact H10
    · ipureintro
      have e7 : runA.sl.r c arg1 harg1 arg2 harg2 arg3 harg3 x0 x1 x2 = k0_pay7 x0 x1 x2 := by
        unfold runA.sl.r; rw [load_all harg1 x0 off_zero, load_all harg2 x1 off_zero, load_all harg3 x2 off_zero]
      rw [e7, load_all harg1 x0 off_zero, load_all harg2 x1 off_zero, load_all harg3 x2 off_zero]
      exact View.read_writes_eq_canon _ _ _ (vmL_cover x0 x1 x2)
  isplitl [H11]
  · iexists _; isplitr; swap; · iexact H11
    · ipureintro
      exact (store_all arg12 _ _ off_zero _).trans (congrArg k0_pay8 (load_all harg4 x3 off_zero _))
  isplitl [H12]
  · iexists _; isplitr; swap; · iexact H12
    · ipureintro
      exact (store_all arg13 _ _ off_zero _).trans (congrArg k0_pay9 (load_all harg5 x4 off_zero _))
  isplitl [H13]
  · iexists _; isplitr; swap; · iexact H13
    · ipureintro
      exact (store_all arg14 _ _ off_zero _).trans (congrArg k0_pay10 (load_all harg6 x5 off_zero _))
  isplitl [H14]
  · iexists _; isplitr; swap; · iexact H14
    · ipureintro
      exact (store_all arg15 _ _ off_zero _).trans (congrArg k0_pay11 (load_all harg7 x6 off_zero _))
  isplitl [H15]
  · iexists _; isplitr; swap; · iexact H15
    · ipureintro
      exact (store_all arg16 _ _ off_zero _).trans (congrArg k0_pay12 (load_all harg8 x7 off_zero _))
  iexists _; isplitr; swap; · iexact H16
  · ipureintro
    exact (store_all arg17 _ _ off_zero _).trans (congrArg k0_pay13 (load_all harg9 x8 off_zero _))

set_option maxHeartbeats 2000000 in
/-- At a later point. -/
theorem runB (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x512 .f32) (harg3 : arg3.IsWhole) (arg4 : Memref sig .tc .vmem S128x5120 .f32) (harg4 : arg4.IsWhole) (arg5 : Memref sig .tc .vmem S32x1024 .f32) (harg5 : arg5.IsWhole) (arg6 : Memref sig .tc .vmem S64x1024 .f32) (harg6 : arg6.IsWhole) (arg7 : Memref sig .tc .vmem S32x1024 .f32) (harg7 : arg7.IsWhole) (arg8 : Memref sig .tc .vmem S128x1024 .f32) (harg8 : arg8.IsWhole) (arg9 : Memref sig .tc .vmem S32x256 .f32) (harg9 : arg9.IsWhole) (arg10 : Memref sig .tc .vmem S256x256 .bf16) (harg10 : arg10.IsWhole) (arg11 : Memref sig .tc .vmem S2x256x256 .bf16) (harg11 : arg11.IsWhole) (arg12 : Memref sig .tc .vmem S128x5120 .bf16) (harg12 : arg12.IsWhole) (arg13 : Memref sig .tc .vmem S32x1024 .bf16) (harg13 : arg13.IsWhole) (arg14 : Memref sig .tc .vmem S64x1024 .bf16) (harg14 : arg14.IsWhole) (arg15 : Memref sig .tc .vmem S32x1024 .bf16) (harg15 : arg15.IsWhole) (arg16 : Memref sig .tc .vmem S128x1024 .bf16) (harg16 : arg16.IsWhole) (arg17 : Memref sig .tc .vmem S32x256 .bf16) (harg17 : arg17.IsWhole) (hc : ¬k0_cond1 i = 1#1)
    (x0 : Vec F S256x1024 .f32) (x1 : Vec F S1x1024 .f32) (x2 : Vec F S1024x512 .f32) (x3 : Vec F S128x5120 .f32) (x4 : Vec F S32x1024 .f32) (x5 : Vec F S64x1024 .f32) (x6 : Vec F S32x1024 .f32) (x7 : Vec F S128x1024 .f32) (x8 : Vec F S32x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg12 fullShare (k0_pay8 x3) ∗ owns (c : Thread nD τ) arg13 fullShare (k0_pay9 x4) ∗ owns (c : Thread nD τ) arg14 fullShare (k0_pay10 x5) ∗ owns (c : Thread nD τ) arg15 fullShare (k0_pay11 x6) ∗ owns (c : Thread nD τ) arg16 fullShare (k0_pay12 x7) ∗ owns (c : Thread nD τ) arg17 fullShare (k0_pay13 x8)) -∗ K ⟨⟩))
    ⊢ wp frame (wpE (defs₀ (F := F)) Variants.none c none) E (cc0_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_prep_eq_skeleton]; unfold cc0_prep_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H11]
  · iexists _; isplitr; swap; · iexact H11
    · ipureintro
      exact (store_all arg12 _ _ off_zero _).trans (congrArg k0_pay8 (load_all harg4 x3 off_zero _))
  isplitl [H12]
  · iexists _; isplitr; swap; · iexact H12
    · ipureintro
      exact (store_all arg13 _ _ off_zero _).trans (congrArg k0_pay9 (load_all harg5 x4 off_zero _))
  isplitl [H13]
  · iexists _; isplitr; swap; · iexact H13
    · ipureintro
      exact (store_all arg14 _ _ off_zero _).trans (congrArg k0_pay10 (load_all harg6 x5 off_zero _))
  isplitl [H14]
  · iexists _; isplitr; swap; · iexact H14
    · ipureintro
      exact (store_all arg15 _ _ off_zero _).trans (congrArg k0_pay11 (load_all harg7 x6 off_zero _))
  isplitl [H15]
  · iexists _; isplitr; swap; · iexact H15
    · ipureintro
      exact (store_all arg16 _ _ off_zero _).trans (congrArg k0_pay12 (load_all harg8 x7 off_zero _))
  iexists _; isplitr; swap; · iexact H16
  · ipureintro
    exact (store_all arg17 _ _ off_zero _).trans (congrArg k0_pay13 (load_all harg9 x8 off_zero _))

end Cert.Kernel2Ideal.Prep

end
-- ==== Proof.PrepKernel2Ideal.lean ====
/- The whole run of the call that prepares the memory's keys and values and casts the weights: the
   contents of its buffers at every point of the grid, the body's obligation there, and the run of the
   host program around it. -/
module

public import proofs.«01_k».proof.Proof.RunKernel2Ideal
public import Idealize.ShloMosaic.Lib.Claim

@[expose] public section

set_option maxRecDepth 16384

noncomputable section

namespace Cert.Kernel2Ideal.Prep

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The keys: what the first point computes, kept in the buffer until the last point. -/
def keys (c : Dev nD) : Vec F S256x256 .bf16 := k0_pay4 (iblk m c 0 t0_0) (iblk m c 1 t0_0) (iblk m c 2 t0_0)
/-- The values, likewise. -/
def vals (c : Dev nD) : Vec F S2x256x256 .bf16 := vmOf (iblk m c 0 t0_0) (iblk m c 1 t0_0) (iblk m c 2 t0_0)

/-- What each window's buffer holds after the body, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => keys m c
    | ⟨10, _⟩ => vals m c
    | ⟨11, _⟩ => k0_pay8 (iblk m c 3 t)
    | ⟨12, _⟩ => k0_pay9 (iblk m c 4 t)
    | ⟨13, _⟩ => k0_pay10 (iblk m c 5 t)
    | ⟨14, _⟩ => k0_pay11 (iblk m c 6 t)
    | ⟨15, _⟩ => k0_pay12 (iblk m c 7 t)
    | ⟨16, _⟩ => k0_pay13 (iblk m c 8 t)
    | ⟨_ + 17, h⟩ => absurd h (Nat.not_lt.2 (Nat.le_add_left _ _))
  Φ _ := Pipeline.ΦA spec0 c
  q _ := fullShare
  owed _ := 0

theorem arr_start (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = keys m c := by dsimp only [dats]
theorem after_10 (c : Dev nD) (t : Fin cfg0.N) : (dats m 0 c).after 10 t = vals m c := by dsimp only [dats]
theorem after_11 (c : Dev nD) (t : Fin cfg0.N) : (dats m 0 c).after 11 t = k0_pay8 (iblk m c 3 t) := by dsimp only [dats]
theorem after_12 (c : Dev nD) (t : Fin cfg0.N) : (dats m 0 c).after 12 t = k0_pay9 (iblk m c 4 t) := by dsimp only [dats]
theorem after_13 (c : Dev nD) (t : Fin cfg0.N) : (dats m 0 c).after 13 t = k0_pay10 (iblk m c 5 t) := by dsimp only [dats]
theorem after_14 (c : Dev nD) (t : Fin cfg0.N) : (dats m 0 c).after 14 t = k0_pay11 (iblk m c 6 t) := by dsimp only [dats]
theorem after_15 (c : Dev nD) (t : Fin cfg0.N) : (dats m 0 c).after 15 t = k0_pay12 (iblk m c 7 t) := by dsimp only [dats]
theorem after_16 (c : Dev nD) (t : Fin cfg0.N) : (dats m 0 c).after 16 t = k0_pay13 (iblk m c 8 t) := by dsimp only [dats]
theorem before_0 (c : Dev nD) (t : Fin cfg0.N) (d) : (dats m 0 c).before 0 t d = iblk m c 0 t :=
  before0_0_of m (dats m 0 c) (arr_start m c 0) (after_0 m c) t d
theorem before_1 (c : Dev nD) (t : Fin cfg0.N) (d) : (dats m 0 c).before 1 t d = iblk m c 1 t :=
  before0_1_of m (dats m 0 c) (arr_start m c 1) (after_1 m c) t d
theorem before_2 (c : Dev nD) (t : Fin cfg0.N) (d) : (dats m 0 c).before 2 t d = iblk m c 2 t :=
  before0_2_of m (dats m 0 c) (arr_start m c 2) (after_2 m c) t d
theorem before_3 (c : Dev nD) (t : Fin cfg0.N) (d) : (dats m 0 c).before 3 t d = iblk m c 3 t :=
  before0_3_of m (dats m 0 c) (arr_start m c 3) (after_3 m c) t d
theorem before_4 (c : Dev nD) (t : Fin cfg0.N) (d) : (dats m 0 c).before 4 t d = iblk m c 4 t :=
  before0_4_of m (dats m 0 c) (arr_start m c 4) (after_4 m c) t d
theorem before_5 (c : Dev nD) (t : Fin cfg0.N) (d) : (dats m 0 c).before 5 t d = iblk m c 5 t :=
  before0_5_of m (dats m 0 c) (arr_start m c 5) (after_5 m c) t d
theorem before_6 (c : Dev nD) (t : Fin cfg0.N) (d) : (dats m 0 c).before 6 t d = iblk m c 6 t :=
  before0_6_of m (dats m 0 c) (arr_start m c 6) (after_6 m c) t d
theorem before_7 (c : Dev nD) (t : Fin cfg0.N) (d) : (dats m 0 c).before 7 t d = iblk m c 7 t :=
  before0_7_of m (dats m 0 c) (arr_start m c 7) (after_7 m c) t d
theorem before_8 (c : Dev nD) (t : Fin cfg0.N) (d) : (dats m 0 c).before 8 t d = iblk m c 8 t :=
  before0_8_of m (dats m 0 c) (arr_start m c 8) (after_8 m c) t d

theorem lt_eight (t : Fin cfg0.N) : t.val < 8 := Nat.lt_of_lt_of_eq t.isLt N_0

theorem idle_9 (t : Fin cfg0.N) (ht : t.val ≠ 0) : cfg0.idle 9 (cfg0.grid.coords t) = true := by
  have h : ¬k0_cond1 (grid0.coords t) = 1#1 := fun h => ht (by have := (cond_first t).mp h; have := lt_eight t; omega)
  show (!(k0_cond1 (grid0.coords t) == 1#1)) = true
  rw [beq_false_of_ne h]; rfl
theorem busy_9 (t : Fin cfg0.N) (ht : t.val = 0) : cfg0.idle 9 (cfg0.grid.coords t) = false := by
  have h : k0_cond1 (grid0.coords t) = 1#1 := (cond_first t).mpr (by omega)
  show (!(k0_cond1 (grid0.coords t) == 1#1)) = false
  rw [h]; rfl
/-- At every later point the buffer still holds the keys. -/
theorem kept_9 (c : Dev nD) (d) : ∀ (n : ℕ) (hn : n + 1 < cfg0.N), (dats m 0 c).before 9 ⟨n + 1, hn⟩ d = keys m c := by
  intro n
  induction n with
  | zero =>
    intro hn
    have hfl : (cfg0.win 9).flush ⟨0, Nat.lt_of_succ_lt hn⟩ = false :=
      Bool.eq_false_iff.mpr fun h => absurd ((flush0_9 ⟨0, Nat.lt_of_succ_lt hn⟩).mp h) (show ¬(0 % 8 = 7) by decide)
    refine ((dats m 0 c).before_of_pos 9 ⟨0 + 1, hn⟩ (Nat.succ_ne_zero _) ((cfg0.win 9).fetch_out rfl _) d).trans ?_
    refine (if_neg (by rw [show (⟨(⟨0 + 1, hn⟩ : Fin cfg0.N).val - 1, Nat.lt_of_le_of_lt (Nat.sub_le _ _) hn⟩ : Fin cfg0.N) = ⟨0, Nat.lt_of_succ_lt hn⟩ from rfl, hfl]; exact Bool.false_ne_true)).trans ?_
    unfold Dat.left
    rw [busy_9 _ rfl]
    dsimp only
    unfold Dat.kept
    rw [Pipeline.fill_of_clip_none 9 _ (fun _ => rfl) d ((dats m 0 c).after 9 _), Window.fill_cut, after_9]
  | succ n ih =>
    intro hn
    have hn' : n + 1 < cfg0.N := Nat.lt_of_succ_lt hn
    have hfl : (cfg0.win 9).flush ⟨n + 1, hn'⟩ = false :=
      Bool.eq_false_iff.mpr fun h => by
        have h7 := (flush0_9 ⟨n + 1, hn'⟩).mp h
        have h8 : n + 1 + 1 < 8 := lt_eight ⟨n + 1 + 1, hn⟩
        dsimp only at h7; omega
    refine ((dats m 0 c).before_of_pos 9 ⟨n + 1 + 1, hn⟩ (Nat.succ_ne_zero _) ((cfg0.win 9).fetch_out rfl _) d).trans ?_
    refine (if_neg (by rw [show (⟨(⟨n + 1 + 1, hn⟩ : Fin cfg0.N).val - 1, Nat.lt_of_le_of_lt (Nat.sub_le _ _) hn⟩ : Fin cfg0.N) = ⟨n + 1, hn'⟩ from rfl, hfl]; exact Bool.false_ne_true)).trans ?_
    unfold Dat.left
    rw [idle_9 _ (Nat.succ_ne_zero n)]
    exact ih hn'
theorem kept_at_9 (c : Dev nD) (t : Fin cfg0.N) (ht : t.val ≠ 0) (d) : (dats m 0 c).before 9 t d = keys m c := by
  obtain ⟨n, hn⟩ := t
  cases n with
  | zero => exact absurd rfl ht
  | succ n => exact kept_9 m c d n hn
theorem leaves_first_9 (c : Dev nD) (t : Fin cfg0.N) (ht : t.val = 0) :
    (dats m 0 c).leavesExact 9 t = owns (c : Thread nD τ) (win0_9.stage (cfg0.slots t 9)) fullShare (keys m c) := by
  unfold Dat.leavesExact; rw [busy_9 t ht, after_9]
theorem leaves_last_9 (c : Dev nD) (t : Fin cfg0.N) (ht : t.val = 7) :
    (dats m 0 c).leavesExact 9 t = owns (c : Thread nD τ) (win0_9.stage (cfg0.slots t 9)) fullShare (keys m c) := by
  unfold Dat.leavesExact; rw [idle_9 t (by omega), (flush0_9 t).mpr (by omega), after_9]
theorem leaves_later_9 (c : Dev nD) (t : Fin cfg0.N) (ht : t.val ≠ 0) (h7 : t.val ≠ 7) :
    (dats m 0 c).leavesExact 9 t = iprop(∃ d, owns (c : Thread nD τ) (win0_9.stage (cfg0.slots t 9)) fullShare ((dats m 0 c).before 9 t d)) :=
  (dats m 0 c).leavesExact_idle 9 t (idle_9 t ht) (Bool.eq_false_iff.mpr fun h => by have := (flush0_9 t).mp h; have := lt_eight t; omega)

theorem idle_10 (t : Fin cfg0.N) (ht : t.val ≠ 0) : cfg0.idle 10 (cfg0.grid.coords t) = true := by
  have h : ¬k0_cond1 (grid0.coords t) = 1#1 := fun h => ht (by have := (cond_first t).mp h; have := lt_eight t; omega)
  show (!(k0_cond1 (grid0.coords t) == 1#1)) = true
  rw [beq_false_of_ne h]; rfl
theorem busy_10 (t : Fin cfg0.N) (ht : t.val = 0) : cfg0.idle 10 (cfg0.grid.coords t) = false := by
  have h : k0_cond1 (grid0.coords t) = 1#1 := (cond_first t).mpr (by omega)
  show (!(k0_cond1 (grid0.coords t) == 1#1)) = false
  rw [h]; rfl
/-- At every later point the buffer still holds the vals. -/
theorem kept_10 (c : Dev nD) (d) : ∀ (n : ℕ) (hn : n + 1 < cfg0.N), (dats m 0 c).before 10 ⟨n + 1, hn⟩ d = vals m c := by
  intro n
  induction n with
  | zero =>
    intro hn
    have hfl : (cfg0.win 10).flush ⟨0, Nat.lt_of_succ_lt hn⟩ = false :=
      Bool.eq_false_iff.mpr fun h => absurd ((flush0_10 ⟨0, Nat.lt_of_succ_lt hn⟩).mp h) (show ¬(0 % 8 = 7) by decide)
    refine ((dats m 0 c).before_of_pos 10 ⟨0 + 1, hn⟩ (Nat.succ_ne_zero _) ((cfg0.win 10).fetch_out rfl _) d).trans ?_
    refine (if_neg (by rw [show (⟨(⟨0 + 1, hn⟩ : Fin cfg0.N).val - 1, Nat.lt_of_le_of_lt (Nat.sub_le _ _) hn⟩ : Fin cfg0.N) = ⟨0, Nat.lt_of_succ_lt hn⟩ from rfl, hfl]; exact Bool.false_ne_true)).trans ?_
    unfold Dat.left
    rw [busy_10 _ rfl]
    dsimp only
    unfold Dat.kept
    rw [Pipeline.fill_of_clip_none 10 _ (fun _ => rfl) d ((dats m 0 c).after 10 _), Window.fill_cut, after_10]
  | succ n ih =>
    intro hn
    have hn' : n + 1 < cfg0.N := Nat.lt_of_succ_lt hn
    have hfl : (cfg0.win 10).flush ⟨n + 1, hn'⟩ = false :=
      Bool.eq_false_iff.mpr fun h => by
        have h7 := (flush0_10 ⟨n + 1, hn'⟩).mp h
        have h8 : n + 1 + 1 < 8 := lt_eight ⟨n + 1 + 1, hn⟩
        dsimp only at h7; omega
    refine ((dats m 0 c).before_of_pos 10 ⟨n + 1 + 1, hn⟩ (Nat.succ_ne_zero _) ((cfg0.win 10).fetch_out rfl _) d).trans ?_
    refine (if_neg (by rw [show (⟨(⟨n + 1 + 1, hn⟩ : Fin cfg0.N).val - 1, Nat.lt_of_le_of_lt (Nat.sub_le _ _) hn⟩ : Fin cfg0.N) = ⟨n + 1, hn'⟩ from rfl, hfl]; exact Bool.false_ne_true)).trans ?_
    unfold Dat.left
    rw [idle_10 _ (Nat.succ_ne_zero n)]
    exact ih hn'
theorem kept_at_10 (c : Dev nD) (t : Fin cfg0.N) (ht : t.val ≠ 0) (d) : (dats m 0 c).before 10 t d = vals m c := by
  obtain ⟨n, hn⟩ := t
  cases n with
  | zero => exact absurd rfl ht
  | succ n => exact kept_10 m c d n hn
theorem leaves_first_10 (c : Dev nD) (t : Fin cfg0.N) (ht : t.val = 0) :
    (dats m 0 c).leavesExact 10 t = owns (c : Thread nD τ) (win0_10.stage (cfg0.slots t 10)) fullShare (vals m c) := by
  unfold Dat.leavesExact; rw [busy_10 t ht, after_10]
theorem leaves_last_10 (c : Dev nD) (t : Fin cfg0.N) (ht : t.val = 7) :
    (dats m 0 c).leavesExact 10 t = owns (c : Thread nD τ) (win0_10.stage (cfg0.slots t 10)) fullShare (vals m c) := by
  unfold Dat.leavesExact; rw [idle_10 t (by omega), (flush0_10 t).mpr (by omega), after_10]
theorem leaves_later_10 (c : Dev nD) (t : Fin cfg0.N) (ht : t.val ≠ 0) (h7 : t.val ≠ 7) :
    (dats m 0 c).leavesExact 10 t = iprop(∃ d, owns (c : Thread nD τ) (win0_10.stage (cfg0.slots t 10)) fullShare ((dats m 0 c).before 10 t d)) :=
  (dats m 0 c).leavesExact_idle 10 t (idle_10 t ht) (Bool.eq_false_iff.mpr fun h => by have := (flush0_10 t).mp h; have := lt_eight t; omega)

/-- What the body is handed at a point. -/
def handed (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d)))

/-- What it hands back. -/
def handedBack (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ (dats m 0 c).leavesExact 9 t
    ∗ (dats m 0 c).leavesExact 10 t
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t))

set_option maxHeartbeats 4000000 in
/-- The body does it at every point. -/
theorem body_at (c : Dev nD) (t : Fin cfg0.N) :
    handed m c t ⊢ wp frame (wpE (defs₀ (F := F)) Variants.none c none) Set.univ (bodyAt0 t) (fun _ => handedBack m c t) := by
  unfold handed handedBack bodyAt0
  simp only [before_0, before_1, before_2, before_3, before_4, before_5, before_6, before_7, before_8]
  rw [show (dats m 0 c).owesAt () t.succ = (dats m 0 c).owesAt () t.castSucc from rfl,
    show (dats m 0 c).Φ t.succ = (dats m 0 c).Φ t.castSucc from rfl,
    after_0, after_1, after_2, after_3, after_4, after_5, after_6, after_7, after_8, after_11, after_12, after_13, after_14, after_15, after_16]
  by_cases hz : t.val = 0
  · rw [leaves_first_9 m c t hz, leaves_first_10 m c t hz]
    have e : t = t0_0 := Fin.ext hz
    have ek : keys m c = k0_pay4 (iblk m c 0 t) (iblk m c 1 t) (iblk m c 2 t) := by rw [e]; rfl
    have ev : vals m c = vmOf (iblk m c 0 t) (iblk m c 1 t) (iblk m c 2 t) := by rw [e]; rfl
    rw [ek, ev]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (runA c (grid0.coords t) _ _ _ _ _ _ _ _ _ _ _ _ _ _ _ _ _ _ _ _ _ _ _ _ _ _ _ _ _ _ _ _ _ _ ((cond_first t).mpr (by omega)) (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iintro ⟨H0, H1, H2, H3, H4, H5, H6, H7, H8, H9, H10, H11, H12, H13, H14, H15, H16⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · by_cases h7 : t.val = 7
    · rw [leaves_last_9 m c t h7, leaves_last_10 m c t h7]
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      rw [kept_at_9 m c t hz d9, kept_at_10 m c t hz d10]
      iapply (runB c (grid0.coords t) _ _ _ _ _ _ _ _ _ _ _ _ _ _ _ _ _ _ _ _ _ _ _ _ _ _ _ _ _ _ _ _ _ _ (fun h => hz (by have := (cond_first t).mp h; have := lt_eight t; omega)) (iblk m c 0 t) (iblk m c 1 t) (iblk m c 2 t) (iblk m c 3 t) (iblk m c 4 t) (iblk m c 5 t) (iblk m c 6 t) (iblk m c 7 t) (iblk m c 8 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      iintro ⟨H0, H1, H2, H3, H4, H5, H6, H7, H8, H11, H12, H13, H14, H15, H16⟩
      isplitl [HP]; · iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · rw [leaves_later_9 m c t hz h7, leaves_later_10 m c t hz h7]
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (runB c (grid0.coords t) _ _ _ _ _ _ _ _ _ _ _ _ _ _ _ _ _ _ _ _ _ _ _ _ _ _ _ _ _ _ _ _ _ _ (fun h => hz (by have := (cond_first t).mp h; have := lt_eight t; omega)) (iblk m c 0 t) (iblk m c 1 t) (iblk m c 2 t) (iblk m c 3 t) (iblk m c 4 t) (iblk m c 5 t) (iblk m c 6 t) (iblk m c 7 t) (iblk m c 8 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      iintro ⟨H0, H1, H2, H3, H4, H5, H6, H7, H8, H11, H12, H13, H14, H15, H16⟩
      isplitl [HP]; · iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexact H12
      isplitl [H13]; · iexact H13
      isplitl [H14]; · iexact H14
      isplitl [H15]; · iexact H15
      iexact H16

theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (body_at m c t) rfl .rfl fun _ => .rfl

set_option backward.isDefEq.respectTransparency.types false in
/-- The whole program runs to the end with every array at what the windows write back, and every counter at zero. -/
theorem whole_run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arr_start m)
    (hin := fun _ => Idealize.SL.BI.Entails.refl _) (hout := fun _ => Idealize.SL.BI.Entails.refl _)

/-- The arguments end as they began, and every counter at zero. -/
theorem whole_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ (dats m) (arr_start m) ((θ_run defs _ _).mono (fun _ h => h.1) (whole_run m ρ)))
    ((θ_run defs _ _).mono (fun _ h => h.2) (whole_run m ρ))

end Cert.Kernel2Ideal.Prep

end
-- ==== Proof.FfnSpec.lean ====
module

public import proofs.«01_k».proof.Proof.Gen.KernelIdeal.Value
public import Idealize.ShloMosaic.Lib.Pointwise
public import Idealize.ShloMosaic.Lib.WritesUnit
public import Idealize.ShloMosaic.Lib.Pipeline.ReadBack

/-!
The feed-forward call, as plain functions of one tile of 1024 rows.

`rms` is the normalisation of a row, `upRow` the up-projection of the normalised rows, `back` the up-projection some
rows earlier (out of the carried rows where those lie in the tile before), `conv` the causal convolution of width
three, `hidden` the gated product and `ffnOut` the call's result.
-/

@[expose] public section

set_option maxRecDepth 16384

noncomputable section

namespace Cert.Ffn

open Idealize.ShloMosaic Cert.KernelIdeal

/-- A row of 1024 numbers divided by its root mean square, times a row of weights. -/
def rms (x g : Fin 1024 → EReal) (k : Fin 1024) : EReal :=
  x k * Ideal.rsqrt (Ideal.div (∑ l, x l * x l) (Ideal.ofBits .f32 1149239296#32) + Ideal.ofBits .f32 897988541#32) * g k

/-- The up-projection of row `r`, normalised. -/
def upRow (x : Vec Ideal S1024x1024 .f32) (g : Vec Ideal S1x1024 .f32) (w : Vec Ideal S1024x5632 .bf16) (r : Fin 1024)
    (j : Fin 5632) : EReal :=
  ∑ k, rms (fun l => x (ix2 r l)) (fun l => g (ix2 0 l)) k * w (ix2 k j)

/-- Row `o + r` of eight carried rows `t` followed by the rows `A`. -/
def back (t : Fin 8 → Fin 5632 → EReal) (A : Fin 1024 → Fin 5632 → EReal) (o : ℕ) (ho : o ≤ 8) (r : Fin 1024)
    (j : Fin 5632) : EReal :=
  if h : o + r.val < 8 then t ⟨o + r.val, h⟩ j else A ⟨o + r.val - 8, by omega⟩ j

/-- The causal convolution: bias, own row, two rows back, one row back. -/
def conv (t : Fin 8 → Fin 5632 → EReal) (A : Fin 1024 → Fin 5632 → EReal) (cw : Vec Ideal S3x5632 .f32)
    (cb : Vec Ideal S1x5632 .f32) (r : Fin 1024) (j : Fin 5632) : EReal :=
  cb (ix2 0 j) + A r j * cw (ix2 2 j) + back t A 6 (by decide) r j * cw (ix2 0 j) + back t A 7 (by decide) r j * cw (ix2 1 j)

/-- Exact gelu of `c`, times `v`. -/
def gated (c v : EReal) : EReal :=
  Ideal.ofBits .f32 1056964608#32 * c * (1 + FloatOps.erf (F := Ideal) (φ := .f32) (c * Ideal.ofBits .f32 1060439283#32)) * v

/-- The gated product: columns `j` (gate) and `2816 + j` (value) of the convolution. -/
def hidden (C : Fin 1024 → Fin 5632 → EReal) (r : Fin 1024) (j : Fin 2816) : EReal :=
  gated (C r ⟨j.val, by omega⟩) (C r ⟨2816 + j.val, by omega⟩)

/-- The result: the down-projection added to the rows and normalised. -/
def outRow (x : Fin 1024 → EReal) (H : Fin 2816 → EReal) (wd : Vec Ideal S2816x1024 .bf16) (gf : Fin 1024 → EReal)
    (k : Fin 1024) : EReal :=
  rms (fun l => x l + ∑ j, H j * wd (ix2 j l)) gf k

/-- The call's result on one tile. -/
def ffnOut (t : Fin 8 → Fin 5632 → EReal) (x : Vec Ideal S1024x1024 .f32) (g : Vec Ideal S1x1024 .f32)
    (w : Vec Ideal S1024x5632 .bf16) (cw : Vec Ideal S3x5632 .f32) (cb : Vec Ideal S1x5632 .f32)
    (wd : Vec Ideal S2816x1024 .bf16) (gf : Vec Ideal S1x1024 .f32) (r k : Fin 1024) : EReal :=
  outRow (fun l => x (ix2 r l)) (hidden (conv t (upRow x g w) cw cb) r) wd (fun l => gf (ix2 0 l)) k

/-! ## Reading the buffers -/

section Reads

variable {sig : RefSig} {κ : Kind} {sp : Space} {Val : EltTy → Type} [∀ e, Nonempty (Val e)]

/-- A load of rows from `o` on out of eight rows `t` followed by 1024 rows `a`. -/
theorem read_rows (v : View sig κ sp S1032x256 .f32) (n o : ℕ) (inb inb8 inb0)
    (t : (Rect.unit (s := S1032x256) ![0, 0] S8x256.size inb0).shape.Idx → Val .f32)
    (a : (Rect.unit (s := S1032x256) ![8, 0] S1024x256.size inb8).shape.Idx → Val .f32)
    (L : List (View.Piece Val S1032x256 .f32)) (r : Fin n) (k : Fin 256) (hr : o + r.val < 1032) :
    v.readCov (⟨Rect.unit ![8, 0] S1024x256.size inb8, a⟩ :: ⟨Rect.unit ![0, 0] S8x256.size inb0, t⟩ :: L)
      (Rect.unit (s := S1032x256) ![o, 0] ![n, 256] inb).toLoadRect (ix2 r k)
      = if h : o + r.val < 8 then t (ix2 (⟨o + r.val, h⟩ : Fin 8) k) else a (ix2 (⟨o + r.val - 8, by omega⟩ : Fin 1024) k) := by
  have e : ∀ f : v.ty.Contents Val, v.readAt Val (Rect.unit (s := S1032x256) ![o, 0] ![n, 256] inb).toLoadRect f (ix2 r k)
      = v.read Val f (ix2 (⟨o + r.val, hr⟩ : Fin 1032) k) := by
    intro f
    refine congrArg (v.read Val f) ?_
    funext b
    apply Fin.ext
    match b with
    | ⟨0, _⟩ => show o + 1 * r.val = o + r.val; omega
    | ⟨1, _⟩ => show 0 + 1 * k.val = k.val; omega
  unfold View.readCov
  rw [e]
  by_cases h : o + r.val < 8
  · rw [dif_pos h, View.read_writes_cons_unit_of_not_mem v _ inb8 a _ _ rfl (0 : Fin 2) (Or.inl h)]
    refine View.read_writes_cons_unit_of_mem v _ inb0 t L _ (ix2 (⟨o + r.val, h⟩ : Fin 8) k) rfl fun b => ?_
    match b with
    | ⟨0, _⟩ => show o + r.val = 0 + (o + r.val); omega
    | ⟨1, _⟩ => show k.val = 0 + k.val; omega
  · rw [dif_neg h]
    refine View.read_writes_cons_unit_of_mem v _ inb8 a _ _ (ix2 (⟨o + r.val - 8, by omega⟩ : Fin 1024) k) rfl fun b => ?_
    match b with
    | ⟨0, _⟩ => show o + r.val = 8 + (o + r.val - 8); omega
    | ⟨1, _⟩ => show k.val = 0 + k.val; omega

/-- A stored block that holds the entries of a matrix `G` at its own places. -/
theorem piece_of {R C n m o1 o2 : ℕ} {e : EltTy} (G : Fin R → Fin C → Val e) (inb)
    (w : (Rect.unit (s := (⟨2, ![R, C]⟩ : Shape)) ![o1, o2] ![n, m] inb).shape.Idx → Val e)
    (h : ∀ (r : Fin n) (k : Fin m) (hr : o1 + r.val < R) (hk : o2 + k.val < C), w (ix2 r k) = G ⟨o1 + r.val, hr⟩ ⟨o2 + k.val, hk⟩)
    (x : (Rect.unit (s := (⟨2, ![R, C]⟩ : Shape)) ![o1, o2] ![n, m] inb).shape.Idx) :
    w x = (fun y : (⟨2, ![R, C]⟩ : Shape).Idx => G (y 0) (y 1)) ((Rect.unit ![o1, o2] ![n, m] inb).emb x) := by
  have b0 : o1 + n ≤ R := inb 0
  have b1 : o2 + m ≤ C := inb 1
  have l0 : (x (0 : Fin 2)).val < n := (x (0 : Fin 2)).isLt
  have l1 : (x (1 : Fin 2)).val < m := (x (1 : Fin 2)).isLt
  have hx : x = ix2 (⟨(x (0 : Fin 2)).val, l0⟩ : Fin n) (⟨(x (1 : Fin 2)).val, l1⟩ : Fin m) := by
    funext a
    match a with
    | ⟨0, _⟩ => rfl
    | ⟨1, _⟩ => rfl
  refine ((congrArg w hx).trans (h ⟨_, l0⟩ ⟨_, l1⟩ (by show o1 + (x (0 : Fin 2)).val < R; omega)
    (by show o2 + (x (1 : Fin 2)).val < C; omega))).trans ?_
  show G _ _ = G _ _
  congr 1
  · apply Fin.ext
    show o1 + (x (0 : Fin 2)).val = o1 + 1 * (x (0 : Fin 2)).val
    omega
  · apply Fin.ext
    show o2 + (x (1 : Fin 2)).val = o2 + 1 * (x (1 : Fin 2)).val
    omega

/-- The newest `n` stores decide what is read where one of them lies. -/
theorem canon_take {s : Shape} {e : EltTy} (G : s.Idx → Val e) (L : List (View.Piece Val s e)) (n : ℕ) (y : s.Idx)
    (h : View.PiecesOf G (L.take n)) (hc : ∃ p ∈ L.take n, y ∈ p.1.set) : View.canon L y = G y := by
  have := View.canon_append_of_piecesOf G (L.drop n) (L.take n) h y hc
  rwa [List.take_append_drop] at this

/-- A load of whole rows, from row `q` on, of stores that hold the entries of a matrix `G`. -/
theorem read_mat {R C n q : ℕ} {e : EltTy} (v : View sig κ sp (⟨2, ![R, C]⟩ : Shape) e) (G : Fin R → Fin C → Val e)
    (L : List (View.Piece Val (⟨2, ![R, C]⟩ : Shape) e))
    (hL : View.PiecesOf (fun y : (⟨2, ![R, C]⟩ : Shape).Idx => G (y 0) (y 1)) L)
    (hc : ∀ y : (⟨2, ![R, C]⟩ : Shape).Idx, ∃ p ∈ L, y ∈ p.1.set) (inb) (r : Fin n) (k : Fin C) (hr : q + r.val < R) :
    v.readCov L (Rect.unit (s := (⟨2, ![R, C]⟩ : Shape)) ![q, 0] ![n, C] inb).toLoadRect (ix2 r k) = G ⟨q + r.val, hr⟩ k := by
  rw [View.readCov_eq_canon']
  refine (View.canon_apply_of_pieces (fun y : (⟨2, ![R, C]⟩ : Shape).Idx => G (y 0) (y 1)) L hL.mem _ (hc _)).trans ?_
  show G _ _ = G _ _
  congr 1
  · apply Fin.ext
    show q + 1 * r.val = q + r.val
    omega
  · apply Fin.ext
    show 0 + 1 * k.val = k.val
    omega

end Reads

end Cert.Ffn

end
-- ==== Proof.PrepSpec.lean ====
module

public import proofs.«01_k».proof.Proof.FfnSpec
public import proofs.«01_k».proof.Proof.RunKernel2Ideal
public import Idealize.ShloMosaic.Lib.Pipeline.ReadBack
public import Idealize.ShloMosaic.Lib.Pipeline.ValueKit.Geometry

/-!
The call that prepares the memory's keys and values and casts the weights, as plain functions of its arguments.

`kv` is the projection of a normalised row of the memory, `value` an entry of the values extended by columns of ones
and `diag` an entry of the block-diagonal matrix of the pooling weights.
-/

@[expose] public section

set_option maxRecDepth 16384

noncomputable section

namespace Cert.Prep

open Idealize.ShloMosaic Cert.Kernel2Ideal Cert.Kernel2Ideal.Gen

/-- Column `j` of the projection of row `i` of the memory, normalised. -/
def kv (x : Fin 256 → Fin 1024 → EReal) (g : Fin 1024 → EReal) (w : Fin 1024 → Fin 512 → EReal) (i : Fin 256) (j : Fin 512) : EReal :=
  ∑ k, Ffn.rms (x i) g k * w k j

/-- Half `p` of the values: 128 columns of the projection, then 128 columns of ones. -/
def value (K : Fin 256 → Fin 512 → EReal) (p : Fin 2) (i j : Fin 256) : EReal :=
  if h : j.val < 128 then K i ⟨256 + 128 * p.val + j.val, by omega⟩ else 1

theorem value_left (K : Fin 256 → Fin 512 → EReal) (p : Fin 2) (i j : Fin 256) (k : Fin 512) (h : j.val < 128)
    (hk : k.val = 256 + 128 * p.val + j.val) : value K p i j = K i k :=
  (dif_pos h).trans (congrArg (K i) (Fin.ext hk.symm))

theorem value_right (K : Fin 256 → Fin 512 → EReal) (p : Fin 2) (i j : Fin 256) (h : 128 ≤ j.val) : value K p i j = 1 :=
  dif_neg (Nat.not_lt.2 h)

/-- The block-diagonal matrix of four 64 by 64 blocks. -/
def diag (w : Fin 4 → Fin 64 → Fin 64 → EReal) (i j : Fin 256) : EReal :=
  if i.val / 64 = j.val / 64 then
    w ⟨i.val / 64, by omega⟩ ⟨i.val % 64, Nat.mod_lt _ (by decide)⟩ ⟨j.val % 64, Nat.mod_lt _ (by decide)⟩
  else 0

/-! ## The first point's values -/

variable (x0 : Vec Ideal S256x1024 .f32) (x1 : Vec Ideal S1x1024 .f32) (x2 : Vec Ideal S1024x512 .f32)

/-- The projection of three blocks. -/
abbrev kvB : Fin 256 → Fin 512 → EReal := kv (fun i l => x0 (ix2 i l)) (fun l => x1 (ix2 0 l)) (fun k j => x2 (ix2 k j))

theorem pay_kv (i : Fin 256) (j : Fin 512) : k0_pay3 x0 x1 x2 (ix2 i j) = kvB x0 x1 x2 i j := by
  unfold kvB kv Ffn.rms
  pointwise [k0_pay3]

theorem pay_keys (i j : Fin 256) : k0_pay4 x0 x1 x2 (ix2 i j) = kvB x0 x1 x2 i ⟨j.val, by omega⟩ := by
  rw [← pay_kv]
  pointwise [k0_pay4]

theorem pay_left (i : Fin 256) (j : Fin 128) : k0_pay5 x0 x1 x2 (ix3 0 i j) = kvB x0 x1 x2 i ⟨256 + j.val, by omega⟩ := by
  rw [← pay_kv]
  pointwise [k0_pay5]

theorem pay_right (i : Fin 256) (j : Fin 128) : k0_pay1 (k0_pay7 x0 x1 x2) (ix3 0 i j) = kvB x0 x1 x2 i ⟨384 + j.val, by omega⟩ := by
  rw [← pay_kv]
  pointwise [k0_pay1, k0_pay7]

theorem pay_ones (i : Fin 256) (j : Fin 128) : k0_pay2 (F := Ideal) (ix3 0 i j) = 1 := by
  pointwise [k0_pay2]

theorem pay_ones' (i : Fin 256) (j : Fin 128) : k0_pay6 (F := Ideal) (ix3 0 i j) = 1 := by
  pointwise [k0_pay6]

/-- A store of 128 columns into one half of the values stores the entries of `G`. -/
theorem piece_at (G : Fin 2 → Fin 256 → Fin 256 → EReal) (p : Fin 2) (q : ℕ) (hq : q + 128 ≤ 256)
    (inb : ∀ a : Fin 3, (![p.val, 0, q] : Fin 3 → ℕ) a + S1x256x128.size a ≤ S2x256x256.size a) (f : Vec Ideal S1x256x128 .bf16)
    (h : ∀ (i : Fin 256) (j : Fin 128), f (ix3 0 i j) = G p i ⟨q + j.val, by omega⟩)
    (x : (Rect.unit (s := S2x256x256) ![p.val, 0, q] S1x256x128.size inb).shape.Idx) :
    f x = (fun y : S2x256x256.Idx => G (y 0) (y 1) (y 2)) ((Rect.unit (s := S2x256x256) ![p.val, 0, q] S1x256x128.size inb).emb x) := by
  have e : x = ix3 (0 : Fin 1) (x 1 : Fin 256) (x 2 : Fin 128) := by
    funext a
    match a with
    | ⟨0, _⟩ => exact Fin.ext (by have : (x 0).val < 1 := (x 0).isLt; show (x 0).val = 0; omega)
    | ⟨1, _⟩ => rfl
    | ⟨2, _⟩ => rfl
  have h0 : (x 0).val < 1 := (x 0).isLt
  have e0 : (Rect.unit (s := S2x256x256) ![p.val, 0, q] S1x256x128.size inb).emb x 0 = p :=
    Fin.ext ((ValueKit.rect_emb_unit_val _ _ _ x 0).trans (by show p.val + (x 0).val = p.val; omega))
  have e1 : (Rect.unit (s := S2x256x256) ![p.val, 0, q] S1x256x128.size inb).emb x 1 = x 1 :=
    Fin.ext ((ValueKit.rect_emb_unit_val _ _ _ x 1).trans (by show 0 + (x 1).val = (x 1).val; omega))
  have e2 : (Rect.unit (s := S2x256x256) ![p.val, 0, q] S1x256x128.size inb).emb x 2 = ⟨q + (x 2).val, by have : (x 2).val < 128 := (x 2).isLt; show q + (x 2).val < 256; omega⟩ :=
    Fin.ext (ValueKit.rect_emb_unit_val _ _ _ x 2)
  show f x = G _ _ _
  rw [e0, e1, e2]
  exact (congrArg f e).trans (h (x 1) (x 2))

theorem pay_values (y : S2x256x256.Idx) : Kernel2Ideal.Prep.vmOf x0 x1 x2 y = value (kvB x0 x1 x2) (y 0) (y 1) (y 2) := by
  refine View.canon_append_of_piecesOf (Val := Elt Ideal) (e := .bf16) (fun y : S2x256x256.Idx => value (kvB x0 x1 x2) (y 0) (y 1) (y 2)) []
    (Kernel2Ideal.Prep.vmL x0 x1 x2) ?_ y (Kernel2Ideal.Prep.vmL_cover x0 x1 x2 y)
  refine ⟨?_, ?_, ?_, ?_, trivial⟩
  · exact piece_at (value (kvB x0 x1 x2)) 1 128 (by decide) inb_S2x256x256_S1x256x128_1_0_128 _ fun i j =>
      (pay_ones i j).trans (value_right _ 1 i _ (Nat.le_add_right _ _)).symm
  · exact piece_at (value (kvB x0 x1 x2)) 1 0 (by decide) inb_S2x256x256_S1x256x128_1_0_0 _ fun i j =>
      (pay_right x0 x1 x2 i j).trans (value_left _ 1 i _ _ (by show 0 + j.val < 128; omega) (by show 384 + j.val = 256 + 128 * 1 + (0 + j.val); omega)).symm
  · exact piece_at (value (kvB x0 x1 x2)) 0 128 (by decide) inb_S2x256x256_S1x256x128_0_0_128 _ fun i j =>
      (pay_ones' i j).trans (value_right _ 0 i _ (Nat.le_add_right _ _)).symm
  · exact piece_at (value (kvB x0 x1 x2)) 0 0 (by decide) inb_S2x256x256_S1x256x128_0_0_0 _ fun i j =>
      (pay_left x0 x1 x2 i j).trans (value_left _ 0 i _ _ (by show 0 + j.val < 128; omega) (by show 256 + j.val = 256 + 128 * 0 + (0 + j.val); omega)).symm

end Cert.Prep

end
-- ==== Proof.PrepValue.lean ====
module

public import proofs.«01_k».proof.Proof.PrepKernel2Ideal
public import proofs.«01_k».proof.Proof.PrepSpec
public import Idealize.ShloMosaic.Lib.Claim
public import Idealize.ShloMosaic.Lib.Pipeline.ValueKit.Point

/-!
The eight arrays the preparing call leaves, entry by entry, as functions of its arguments.
-/

@[expose] public section

set_option maxRecDepth 16384

noncomputable section

namespace Cert.Prep

open Idealize.ShloMosaic Idealize.ShloMosaic.TcCoe Cert.Kernel2Ideal Cert.Kernel2Ideal.Gen
open Cert.Kernel2Ideal.Prep (dats keys vals after_9 after_10 after_11 after_12 after_13 after_14 after_15 after_16)

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)

/-! ## The arguments -/

abbrev aMem : Fin 256 → Fin 1024 → EReal := fun i l => m ((c : Thread nD τ).loc main_arg0) (ix3 0 i l)
abbrev aG : Fin 1024 → EReal := fun l => m ((c : Thread nD τ).loc main_arg1) (ix2 0 l)
abbrev aPool : Fin 4 → Fin 64 → Fin 64 → EReal := fun g i j => m ((c : Thread nD τ).loc main_arg3) (ix4 0 g i j)
abbrev aKv : Fin 1024 → Fin 512 → EReal := fun k j => m ((c : Thread nD τ).loc main_arg4) (ix3 0 k j)

theorem blk0 (t : Fin cfg0.N) (i : Fin 256) (k : Fin 1024) : iblk m c 0 t (ix2 i k) = aMem m c i k := by
  blk_ext! [iblk, idx0 t]

theorem blk1 (t : Fin cfg0.N) (k : Fin 1024) : iblk m c 1 t (ix2 0 k) = aG m c k := by
  blk_ext [iblk, V_main_arg1, idx1 t]

theorem blk2 (t : Fin cfg0.N) (k : Fin 1024) (j : Fin 512) : iblk m c 2 t (ix2 k j) = aKv m c k j := by
  blk_ext! [iblk, idx2 t]

theorem blk3 (t : Fin cfg0.N) (i : Fin 128) (j : Fin 5120) (r : Fin 1024) (hr : r.val = 128 * t.val + i.val) :
    iblk m c 3 t (ix2 i j) = m ((c : Thread nD τ).loc main_arg2) (ix3 0 r j) := by
  blk_ext! [iblk, idx3 t]

theorem blk4 (t : Fin cfg0.N) (i : Fin 32) (j : Fin 1024) (r : Fin 256) (hr : r.val = 32 * t.val + i.val) :
    iblk m c 4 t (ix2 i j) = m ((c : Thread nD τ).loc main_arg5) (ix3 0 r j) := by
  blk_ext! [iblk, idx4 t]

theorem blk5 (t : Fin cfg0.N) (i : Fin 64) (j : Fin 1024) (r : Fin 512) (hr : r.val = 64 * t.val + i.val) :
    iblk m c 5 t (ix2 i j) = m ((c : Thread nD τ).loc main_arg6) (ix3 0 r j) := by
  blk_ext! [iblk, idx5 t]

theorem blk6 (t : Fin cfg0.N) (i : Fin 32) (j : Fin 1024) (r : Fin 256) (hr : r.val = 32 * t.val + i.val) :
    iblk m c 6 t (ix2 i j) = m ((c : Thread nD τ).loc main_arg7) (ix3 0 r j) := by
  blk_ext! [iblk, idx6 t]

theorem blk7 (t : Fin cfg0.N) (i : Fin 128) (j : Fin 1024) (r : Fin 1024) (hr : r.val = 128 * t.val + i.val) :
    iblk m c 7 t (ix2 i j) = m ((c : Thread nD τ).loc main_arg8) (ix3 0 r j) := by
  blk_ext! [iblk, idx7 t]

/-- The projection of the whole memory. -/
abbrev kvA : Fin 256 → Fin 512 → EReal := kv (aMem m c) (aG m c) (aKv m c)

theorem kv_blocks (t : Fin cfg0.N) : kvB (iblk m c 0 t) (iblk m c 1 t) (iblk m c 2 t) = kvA m c := by
  unfold kvB kvA
  rw [show (fun i l => iblk m c 0 t (ix2 i l)) = aMem m c from funext fun i => funext fun l => blk0 m c t i l,
    show (fun l => iblk m c 1 t (ix2 0 l)) = aG m c from funext fun l => blk1 m c t l,
    show (fun k j => iblk m c 2 t (ix2 k j)) = aKv m c from funext fun k => funext fun j => blk2 m c t k j]

theorem keys_at (i j : Fin 256) : keys m c (ix2 i j) = kvA m c i ⟨j.val, by omega⟩ := by
  unfold keys
  rw [pay_keys, kv_blocks]

theorem vals_at (y : S2x256x256.Idx) : vals m c y = value (kvA m c) (y 0) (y 1) (y 2) := by
  unfold vals
  rw [pay_values, kv_blocks]

theorem final_9 : (dats m 0 c).arrAt 9 cfg0.N = fun y : S256x256.Idx => kvA m c (y 0) ⟨(y 1).val, by have : (y 1).val < 256 := (y 1).isLt; omega⟩ := by
  refine (dats m 0 c).arrAt_eq_of_covers 9 _ (by decide +kernel) fun t hf y => ?_
  blk_simp
  rw [after_9]
  obtain ⟨i, j, rfl⟩ : ∃ (i : Fin 256) (j : Fin 256), y = ix2 i j := ⟨y 0, y 1, funext fun a => match a with | ⟨0, _⟩ => rfl | ⟨1, _⟩ => rfl⟩
  refine (keys_at m c i j).trans ?_
  have e0 : (win0_9.blk t).view.emb (ix2 i j) 0 = i := Fin.ext (by
    blk_simp [idx9 t]
    try omega)
  rw [e0]
  refine congrArg (kvA m c i) (Fin.ext ?_)
  blk_simp [idx9 t]
  try omega

theorem final_10 : (dats m 0 c).arrAt 10 cfg0.N = fun y : S2x256x256.Idx => value (kvA m c) (y 0) (y 1) (y 2) := by
  refine (dats m 0 c).arrAt_eq_of_covers 10 _ (by decide +kernel) fun t hf y => ?_
  blk_simp
  rw [after_10]
  refine (vals_at m c y).trans ?_
  have e0 : (win0_10.blk t).view.emb y 0 = y 0 := Fin.ext (by
    blk_simp [idx10 t]
    try omega)
  have e1 : (win0_10.blk t).view.emb y 1 = y 1 := Fin.ext (by
    blk_simp [idx10 t]
    try omega)
  have e2 : (win0_10.blk t).view.emb y 2 = y 2 := Fin.ext (by
    blk_simp [idx10 t]
    try omega)
  rw [e0, e1, e2]

theorem pay_11 (x : Vec Ideal S128x5120 .f32) (i : Fin 128) (j : Fin 5120) : k0_pay8 x (ix2 i j) = x (ix2 i j) := by
  pointwise [k0_pay8]

theorem final_11 : (dats m 0 c).arrAt 11 cfg0.N = fun y : S1024x5120.Idx => m ((c : Thread nD τ).loc main_arg2) (ix3 0 (y 0) (y 1)) := by
  refine (dats m 0 c).arrAt_eq_of_covers 11 _ (by decide +kernel) fun t hf y => ?_
  blk_simp
  rw [after_11]
  obtain ⟨i, j, rfl⟩ : ∃ (i : Fin 128) (j : Fin 5120), y = ix2 i j := ⟨y 0, y 1, funext fun a => match a with | ⟨0, _⟩ => rfl | ⟨1, _⟩ => rfl⟩
  refine (pay_11 _ i j).trans ?_
  have e1 : (win0_11.blk t).view.emb (ix2 i j) 1 = j := Fin.ext (by
    blk_simp [idx11 t]
    try omega)
  have e0 : ((win0_11.blk t).view.emb (ix2 i j) 0).val = 128 * t.val + i.val := by
    blk_simp [idx11 t]
    try omega
  rw [e1]
  exact blk3 m c t i j _ e0

theorem pay_12 (x : Vec Ideal S32x1024 .f32) (i : Fin 32) (j : Fin 1024) : k0_pay9 x (ix2 i j) = x (ix2 i j) := by
  pointwise [k0_pay9]

theorem final_12 : (dats m 0 c).arrAt 12 cfg0.N = fun y : S256x1024.Idx => m ((c : Thread nD τ).loc main_arg5) (ix3 0 (y 0) (y 1)) := by
  refine (dats m 0 c).arrAt_eq_of_covers 12 _ (by decide +kernel) fun t hf y => ?_
  blk_simp
  rw [after_12]
  obtain ⟨i, j, rfl⟩ : ∃ (i : Fin 32) (j : Fin 1024), y = ix2 i j := ⟨y 0, y 1, funext fun a => match a with | ⟨0, _⟩ => rfl | ⟨1, _⟩ => rfl⟩
  refine (pay_12 _ i j).trans ?_
  have e1 : (win0_12.blk t).view.emb (ix2 i j) 1 = j := Fin.ext (by
    blk_simp [idx12 t]
    try omega)
  have e0 : ((win0_12.blk t).view.emb (ix2 i j) 0).val = 32 * t.val + i.val := by
    blk_simp [idx12 t]
    try omega
  rw [e1]
  exact blk4 m c t i j _ e0

theorem pay_13 (x : Vec Ideal S64x1024 .f32) (i : Fin 64) (j : Fin 1024) : k0_pay10 x (ix2 i j) = x (ix2 i j) := by
  pointwise [k0_pay10]

theorem final_13 : (dats m 0 c).arrAt 13 cfg0.N = fun y : S512x1024.Idx => m ((c : Thread nD τ).loc main_arg6) (ix3 0 (y 0) (y 1)) := by
  refine (dats m 0 c).arrAt_eq_of_covers 13 _ (by decide +kernel) fun t hf y => ?_
  blk_simp
  rw [after_13]
  obtain ⟨i, j, rfl⟩ : ∃ (i : Fin 64) (j : Fin 1024), y = ix2 i j := ⟨y 0, y 1, funext fun a => match a with | ⟨0, _⟩ => rfl | ⟨1, _⟩ => rfl⟩
  refine (pay_13 _ i j).trans ?_
  have e1 : (win0_13.blk t).view.emb (ix2 i j) 1 = j := Fin.ext (by
    blk_simp [idx13 t]
    try omega)
  have e0 : ((win0_13.blk t).view.emb (ix2 i j) 0).val = 64 * t.val + i.val := by
    blk_simp [idx13 t]
    try omega
  rw [e1]
  exact blk5 m c t i j _ e0

theorem pay_14 (x : Vec Ideal S32x1024 .f32) (i : Fin 32) (j : Fin 1024) : k0_pay11 x (ix2 i j) = x (ix2 i j) := by
  pointwise [k0_pay11]

theorem final_14 : (dats m 0 c).arrAt 14 cfg0.N = fun y : S256x1024.Idx => m ((c : Thread nD τ).loc main_arg7) (ix3 0 (y 0) (y 1)) := by
  refine (dats m 0 c).arrAt_eq_of_covers 14 _ (by decide +kernel) fun t hf y => ?_
  blk_simp
  rw [after_14]
  obtain ⟨i, j, rfl⟩ : ∃ (i : Fin 32) (j : Fin 1024), y = ix2 i j := ⟨y 0, y 1, funext fun a => match a with | ⟨0, _⟩ => rfl | ⟨1, _⟩ => rfl⟩
  refine (pay_14 _ i j).trans ?_
  have e1 : (win0_14.blk t).view.emb (ix2 i j) 1 = j := Fin.ext (by
    blk_simp [idx14 t]
    try omega)
  have e0 : ((win0_14.blk t).view.emb (ix2 i j) 0).val = 32 * t.val + i.val := by
    blk_simp [idx14 t]
    try omega
  rw [e1]
  exact blk6 m c t i j _ e0

theorem pay_15 (x : Vec Ideal S128x1024 .f32) (i : Fin 128) (j : Fin 1024) : k0_pay12 x (ix2 i j) = x (ix2 i j) := by
  pointwise [k0_pay12]

theorem final_15 : (dats m 0 c).arrAt 15 cfg0.N = fun y : S1024x1024.Idx => m ((c : Thread nD τ).loc main_arg8) (ix3 0 (y 0) (y 1)) := by
  refine (dats m 0 c).arrAt_eq_of_covers 15 _ (by decide +kernel) fun t hf y => ?_
  blk_simp
  rw [after_15]
  obtain ⟨i, j, rfl⟩ : ∃ (i : Fin 128) (j : Fin 1024), y = ix2 i j := ⟨y 0, y 1, funext fun a => match a with | ⟨0, _⟩ => rfl | ⟨1, _⟩ => rfl⟩
  refine (pay_15 _ i j).trans ?_
  have e1 : (win0_15.blk t).view.emb (ix2 i j) 1 = j := Fin.ext (by
    blk_simp [idx15 t]
    try omega)
  have e0 : ((win0_15.blk t).view.emb (ix2 i j) 0).val = 128 * t.val + i.val := by
    blk_simp [idx15 t]
    try omega
  rw [e1]
  exact blk7 m c t i j _ e0

/-- Equality of two block numbers, as a bit. -/
theorem same_block : ∀ a b : Fin 4, IntOp.cmpi .eq (IntOp.addi (BitVec.ofNat 32 a.val) 0#32) (BitVec.ofNat 32 b.val) = if a.val = b.val then 1#1 else 0#1 := by
  decide

theorem bit_one : FloatOps.uitofp (F := Ideal) .f32 1#1 = (1 : EReal) := by
  show (((1#1 : BitVec 1).toNat : ℝ) : EReal) = 1
  simp

theorem bit_zero : FloatOps.uitofp (F := Ideal) .f32 0#1 = (0 : EReal) := by
  show (((0#1 : BitVec 1).toNat : ℝ) : EReal) = 0
  simp

theorem pool_at (i j : Fin 256) : V m c main_v17 (ix2 i j) = diag (aPool m c) i j := by
  entry_read
  unfold diag
  pointwise
  have e := same_block ⟨i.val / 64, by omega⟩ ⟨j.val / 64, by omega⟩
  dsimp only at e
  rw [e]
  split_ifs with h
  · rw [bit_one]; exact one_mul (M := EReal) _
  · rw [bit_zero]; exact zero_mul (M₀ := EReal) _

theorem blk8 (t : Fin cfg0.N) (i : Fin 32) (j : Fin 256) (r : Fin 256) (hr : r.val = 32 * t.val + i.val) :
    iblk m c 8 t (ix2 i j) = diag (aPool m c) r j := by
  rw [← pool_at]
  blk_ext [iblk, idx8 t]

theorem pay_16 (x : Vec Ideal S32x256 .f32) (i : Fin 32) (j : Fin 256) : k0_pay13 x (ix2 i j) = x (ix2 i j) := by
  pointwise [k0_pay13]

theorem final_16 : (dats m 0 c).arrAt 16 cfg0.N = fun y : S256x256.Idx => diag (aPool m c) (y 0) (y 1) := by
  refine (dats m 0 c).arrAt_eq_of_covers 16 _ (by decide +kernel) fun t hf y => ?_
  blk_simp
  rw [after_16]
  obtain ⟨i, j, rfl⟩ : ∃ (i : Fin 32) (j : Fin 256), y = ix2 i j := ⟨y 0, y 1, funext fun a => match a with | ⟨0, _⟩ => rfl | ⟨1, _⟩ => rfl⟩
  refine (pay_16 _ i j).trans ?_
  have e1 : (win0_16.blk t).view.emb (ix2 i j) 1 = j := Fin.ext (by
    blk_simp [idx16 t]
    try omega)
  have e0 : ((win0_16.blk t).view.emb (ix2 i j) 0).val = 32 * t.val + i.val := by
    blk_simp [idx16 t]
    try omega
  rw [e1]
  exact blk8 m c t i j _ e0

end Cert.Prep

end
-- ==== Proof.PrepRun.lean ====
module

public import proofs.«01_k».proof.Proof.PrepValue

/-!
The run of the preparing call: its eight results as functions of the arguments, and the arguments kept.
-/

@[expose] public section

set_option maxRecDepth 16384

noncomputable section

namespace Cert.Prep

open Idealize.ShloMosaic Idealize.ShloMosaic.TcCoe Cert.Kernel2Ideal Cert.Kernel2Ideal.Gen
open Cert.Kernel2Ideal.Prep (dats)

variable (m : (ℓ : Loc nD τ sig) → Buf (Elt Ideal) ℓ) (ρ : Dev nD → PrngReg)

def outKeys (c : Dev nD) : Vec Ideal S256x256 .bf16 := fun y => kvA m c (y 0) ⟨(y 1).val, by have : (y 1).val < 256 := (y 1).isLt; omega⟩
def outValues (c : Dev nD) : Vec Ideal S2x256x256 .bf16 := fun y => value (kvA m c) (y 0) (y 1) (y 2)
def outIn (c : Dev nD) : Vec Ideal S1024x5120 .bf16 := fun y => m ((c : Thread nD τ).loc main_arg2) (ix3 0 (y 0) (y 1))
def outUpPool (c : Dev nD) : Vec Ideal S256x1024 .bf16 := fun y => m ((c : Thread nD τ).loc main_arg5) (ix3 0 (y 0) (y 1))
def outUpAttn (c : Dev nD) : Vec Ideal S512x1024 .bf16 := fun y => m ((c : Thread nD τ).loc main_arg6) (ix3 0 (y 0) (y 1))
def outUpMem (c : Dev nD) : Vec Ideal S256x1024 .bf16 := fun y => m ((c : Thread nD τ).loc main_arg7) (ix3 0 (y 0) (y 1))
def outOut (c : Dev nD) : Vec Ideal S1024x1024 .bf16 := fun y => m ((c : Thread nD τ).loc main_arg8) (ix3 0 (y 0) (y 1))
def outPool (c : Dev nD) : Vec Ideal S256x256 .bf16 := fun y => diag (aPool m c) (y 0) (y 1)

theorem kernel_run : θ_run (defs (F := Ideal)) (onTc (τ := τ) (main (F := Ideal))) ⟨m, fun _ => 0, ρ⟩ (fun r => ∀ c : Dev nD,
      r.2.mem ((c.tc : Thread nD τ).loc main_v20_0) = outKeys m c
      ∧ r.2.mem ((c.tc : Thread nD τ).loc main_v20_1) = outValues m c
      ∧ r.2.mem ((c.tc : Thread nD τ).loc main_v20_2) = outIn m c
      ∧ r.2.mem ((c.tc : Thread nD τ).loc main_v20_3) = outUpPool m c
      ∧ r.2.mem ((c.tc : Thread nD τ).loc main_v20_4) = outUpAttn m c
      ∧ r.2.mem ((c.tc : Thread nD τ).loc main_v20_5) = outUpMem m c
      ∧ r.2.mem ((c.tc : Thread nD τ).loc main_v20_6) = outOut m c
      ∧ r.2.mem ((c.tc : Thread nD τ).loc main_v20_7) = outPool m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (θ_run_and (Cert.Kernel2Ideal.Prep.whole_run (F := Ideal) m ρ) (Cert.Kernel2Ideal.Prep.whole_frame (F := Ideal) m ρ))
  obtain ⟨⟨hF, -⟩, hA, -⟩ := h
  have hw := (hF c).1
  have e9 : r.2.mem ((c.tc : Thread nD τ).loc main_v20_0) = outKeys m c := (hw 9).trans (final_9 m c)
  have e10 : r.2.mem ((c.tc : Thread nD τ).loc main_v20_1) = outValues m c := (hw 10).trans (final_10 m c)
  have e11 : r.2.mem ((c.tc : Thread nD τ).loc main_v20_2) = outIn m c := (hw 11).trans (final_11 m c)
  have e12 : r.2.mem ((c.tc : Thread nD τ).loc main_v20_3) = outUpPool m c := (hw 12).trans (final_12 m c)
  have e13 : r.2.mem ((c.tc : Thread nD τ).loc main_v20_4) = outUpAttn m c := (hw 13).trans (final_13 m c)
  have e14 : r.2.mem ((c.tc : Thread nD τ).loc main_v20_5) = outUpMem m c := (hw 14).trans (final_14 m c)
  have e15 : r.2.mem ((c.tc : Thread nD τ).loc main_v20_6) = outOut m c := (hw 15).trans (final_15 m c)
  have e16 : r.2.mem ((c.tc : Thread nD τ).loc main_v20_7) = outPool m c := (hw 16).trans (final_16 m c)
  exact ⟨e9, e10, e11, e12, e13, e14, e15, e16, hA c⟩

end Cert.Prep

end
-- ==== Proof.PrepRef.lean ====
module

public import proofs.«01_k».proof.Proof.PrepSpec
public import proofs.«01_k».proof.Proof.Gen.Reference2Ideal.Read
public import Idealize.ShloMosaic.Lib.KernelVsHost

/-!
The reference of the preparing call, entry by entry: its eight results as the closed forms of `PrepSpec`.
-/

@[expose] public section

set_option maxRecDepth 16384

noncomputable section

namespace Cert.Prep

open Idealize.ShloMosaic Cert.Reference2Ideal Cert.Reference2Ideal.Gen Cert.Reference2Ideal.Read

variable (x0 : Vec Ideal S1x256x1024 .f32) (x1 : Vec Ideal S1x1024 .f32) (x2 : Vec Ideal S1x1024x5120 .f32) (x3 : Vec Ideal S1x4x64x64 .f32)
  (x4 : Vec Ideal S1x1024x512 .f32) (x5 : Vec Ideal S1x256x1024 .f32) (x6 : Vec Ideal S1x512x1024 .f32) (x8 : Vec Ideal S1x1024x1024 .f32)

/-- The projection of three arguments. -/
abbrev kvR : Fin 256 → Fin 512 → EReal := kv (fun i l => x0 (ix3 0 i l)) (fun l => x1 (ix2 0 l)) (fun k j => x4 (ix3 0 k j))

theorem ref_kv (i : Fin 256) (j : Fin 512) : val_main_v16 (F := Ideal) x0 x1 x4 (ix2 i j) = kvR x0 x1 x4 i j := by
  unfold kvR kv Ffn.rms
  pointwise [val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1]

theorem ref_keys (i j : Fin 256) : val_main_v40 (F := Ideal) x0 x1 x4 (ix2 i j) = kvR x0 x1 x4 i ⟨j.val, by omega⟩ := by
  rw [← ref_kv]
  pointwise [val_main_v40, val_main_v17]

theorem ref_half0 (i j : Fin 256) : val_main_v21 (F := Ideal) x0 x1 x4 (ix2 i j) = value (kvR x0 x1 x4) 0 i j := by
  unfold value
  pointwise [val_main_v21, val_main_v20, val_main_v19, val_main_v18, val_main_cst_2]
  simp only [← ref_kv]

theorem ref_half1 (i j : Fin 256) : val_main_v23 (F := Ideal) x0 x1 x4 (ix2 i j) = value (kvR x0 x1 x4) 1 i j := by
  unfold value
  pointwise [val_main_v23, val_main_v22, val_main_v19, val_main_v18, val_main_cst_2]
  simp only [← ref_kv]
  refine dite_congr rfl (fun h => congrArg (fun k => val_main_v16 x0 x1 x4 (ix2 i k)) (Fin.ext ?_)) fun _ => rfl
  show 256 + (128 + j.val) = 256 + 128 * 1 + j.val
  omega

theorem ref_values (p : Fin 2) (i j : Fin 256) : val_main_v41 (F := Ideal) x0 x1 x4 (ix3 p i j) = value (kvR x0 x1 x4) p i j := by
  match p with
  | ⟨0, _⟩ =>
    refine Eq.trans ?_ (ref_half0 x0 x1 x4 i j)
    pointwise [val_main_v41, val_main_v26, val_main_v25, val_main_v24]
  | ⟨1, _⟩ =>
    refine Eq.trans ?_ (ref_half1 x0 x1 x4 i j)
    pointwise [val_main_v41, val_main_v26, val_main_v25, val_main_v24]

theorem ref_in (i : Fin 1024) (j : Fin 5120) : val_main_v43 (F := Ideal) x2 (ix2 i j) = x2 (ix3 0 i j) := by
  pointwise [val_main_v43, val_main_v42]

theorem ref_up (i : Fin 256) (j : Fin 1024) : val_main_v45 (F := Ideal) x5 (ix2 i j) = x5 (ix3 0 i j) := by
  pointwise [val_main_v45, val_main_v44]

theorem ref_up' (i : Fin 512) (j : Fin 1024) : val_main_v47 (F := Ideal) x6 (ix2 i j) = x6 (ix3 0 i j) := by
  pointwise [val_main_v47, val_main_v46]

theorem ref_up'' (i : Fin 256) (j : Fin 1024) : val_main_v49 (F := Ideal) x5 (ix2 i j) = x5 (ix3 0 i j) := by
  pointwise [val_main_v49, val_main_v48]

theorem ref_out (i : Fin 1024) (j : Fin 1024) : val_main_v51 (F := Ideal) x8 (ix2 i j) = x8 (ix3 0 i j) := by
  pointwise [val_main_v51, val_main_v50]

theorem pool_entry (g g' : Fin 4) (a a' b b' : Fin 64) (hg : g.val = g'.val) (ha : a.val = a'.val) (hb : b.val = b'.val) :
    x3 (ix4 0 g a b) = x3 (ix4 0 g' a' b') := by
  rw [Fin.ext hg, Fin.ext ha, Fin.ext hb]

theorem zero_0 (y : S_.Idx) : val_main_call0_v0 (F := Ideal) y = 0 := by
  show ((((0#32 : BitVec 32).toInt : ℤ) : ℝ) : EReal) = 0
  simp
theorem zero_1 (y : S_.Idx) : val_main_call1_v0 (F := Ideal) y = 0 := by
  show ((((0#32 : BitVec 32).toInt : ℤ) : ℝ) : EReal) = 0
  simp
theorem zero_2 (y : S_.Idx) : val_main_call2_v0 (F := Ideal) y = 0 := by
  show ((((0#32 : BitVec 32).toInt : ℤ) : ℝ) : EReal) = 0
  simp
theorem zero_3 (y : S_.Idx) : val_main_call3_v0 (F := Ideal) y = 0 := by
  show ((((0#32 : BitVec 32).toInt : ℤ) : ℝ) : EReal) = 0
  simp

theorem ref_band_0 (a : Fin 64) (j : Fin 256) : val_main_v29 (F := Ideal) x3 (ix2 a j) = diag (fun g a b => x3 (ix4 0 g a b)) ⟨0 + a.val, by omega⟩ j := by
  unfold diag
  pointwise [val_main_v29, val_main_v28, val_main_v27]
  have ha := a.isLt
  have hj := j.isLt
  have z := zero_0 (Shape.Idx.first h_S_)
  generalize val_main_call0_v0 (F := Ideal) (Shape.Idx.first h_S_) = z0 at z ⊢
  split_ifs with h h'
  · exact pool_entry x3 _ _ _ _ _ _ (by dsimp only; omega) (by dsimp only; omega) (by dsimp only; omega)
  · exfalso; omega
  · exfalso; omega
  · exact z

theorem ref_band_1 (a : Fin 64) (j : Fin 256) : val_main_v32 (F := Ideal) x3 (ix2 a j) = diag (fun g a b => x3 (ix4 0 g a b)) ⟨64 + a.val, by omega⟩ j := by
  unfold diag
  pointwise [val_main_v32, val_main_v31, val_main_v30]
  have ha := a.isLt
  have hj := j.isLt
  have z := zero_1 (Shape.Idx.first h_S_)
  generalize val_main_call1_v0 (F := Ideal) (Shape.Idx.first h_S_) = z0 at z ⊢
  split_ifs with h h'
  · exact pool_entry x3 _ _ _ _ _ _ (by dsimp only; omega) (by dsimp only; omega) (by dsimp only; omega)
  · exfalso; omega
  · exfalso; omega
  · exact z

theorem ref_band_2 (a : Fin 64) (j : Fin 256) : val_main_v35 (F := Ideal) x3 (ix2 a j) = diag (fun g a b => x3 (ix4 0 g a b)) ⟨128 + a.val, by omega⟩ j := by
  unfold diag
  pointwise [val_main_v35, val_main_v34, val_main_v33]
  have ha := a.isLt
  have hj := j.isLt
  have z := zero_2 (Shape.Idx.first h_S_)
  generalize val_main_call2_v0 (F := Ideal) (Shape.Idx.first h_S_) = z0 at z ⊢
  split_ifs with h h'
  · exact pool_entry x3 _ _ _ _ _ _ (by dsimp only; omega) (by dsimp only; omega) (by dsimp only; omega)
  · exfalso; omega
  · exfalso; omega
  · exact z

theorem ref_band_3 (a : Fin 64) (j : Fin 256) : val_main_v38 (F := Ideal) x3 (ix2 a j) = diag (fun g a b => x3 (ix4 0 g a b)) ⟨192 + a.val, by omega⟩ j := by
  unfold diag
  pointwise [val_main_v38, val_main_v37, val_main_v36]
  have ha := a.isLt
  have hj := j.isLt
  have z := zero_3 (Shape.Idx.first h_S_)
  generalize val_main_call3_v0 (F := Ideal) (Shape.Idx.first h_S_) = z0 at z ⊢
  split_ifs with h h'
  · exact pool_entry x3 _ _ _ _ _ _ (by dsimp only; omega) (by dsimp only; omega) (by dsimp only; omega)
  · exfalso; omega
  · exfalso; omega
  · exact z

theorem ref_pool (i j : Fin 256) : val_main_v52 (F := Ideal) x3 (ix2 i j) = diag (fun g a b => x3 (ix4 0 g a b)) i j := by
  pointwise [val_main_v52, val_main_v39]
  have hi := i.isLt
  by_cases h0 : i.val < 64
  · rw [dif_pos h0]
    exact (ref_band_0 x3 ⟨i.val, _⟩ j).trans (congrArg (fun k => diag (fun g a b => x3 (ix4 0 g a b)) k j) (Fin.ext (by show 0 + (i.val) = i.val; omega)))
  rw [dif_neg h0]
  by_cases h1 : i.val - 64 < 64
  · rw [dif_pos h1]
    exact (ref_band_1 x3 ⟨i.val - 64, _⟩ j).trans (congrArg (fun k => diag (fun g a b => x3 (ix4 0 g a b)) k j) (Fin.ext (by show 64 + (i.val - 64) = i.val; omega)))
  rw [dif_neg h1]
  by_cases h2 : i.val - 64 - 64 < 64
  · rw [dif_pos h2]
    exact (ref_band_2 x3 ⟨i.val - 64 - 64, _⟩ j).trans (congrArg (fun k => diag (fun g a b => x3 (ix4 0 g a b)) k j) (Fin.ext (by show 128 + (i.val - 64 - 64) = i.val; omega)))
  rw [dif_neg h2]
  exact (ref_band_3 x3 ⟨i.val - 64 - 64 - 64, _⟩ j).trans (congrArg (fun k => diag (fun g a b => x3 (ix4 0 g a b)) k j) (Fin.ext (by show 192 + (i.val - 64 - 64 - 64) = i.val; omega)))

/-! ## The results as arrays -/

theorem all_keys : val_main_v40 (F := Ideal) x0 x1 x4 = fun y : S256x256.Idx => kvR x0 x1 x4 (y 0) ⟨(y 1).val, by have : (y 1).val < 256 := (y 1).isLt; omega⟩ := by
  funext y
  rw [show y = ix2 (y 0 : Fin 256) (y 1 : Fin 256) from funext fun a => match a with | ⟨0, _⟩ => rfl | ⟨1, _⟩ => rfl]
  exact ref_keys x0 x1 x4 (y 0) (y 1)

theorem all_values : val_main_v41 (F := Ideal) x0 x1 x4 = fun y : S2x256x256.Idx => value (kvR x0 x1 x4) (y 0) (y 1) (y 2) := by
  funext y
  rw [show y = ix3 (y 0 : Fin 2) (y 1 : Fin 256) (y 2 : Fin 256) from funext fun a => match a with | ⟨0, _⟩ => rfl | ⟨1, _⟩ => rfl | ⟨2, _⟩ => rfl]
  exact ref_values x0 x1 x4 (y 0) (y 1) (y 2)

theorem all_in : val_main_v43 (F := Ideal) x2 = fun y : S1024x5120.Idx => x2 (ix3 0 (y 0) (y 1)) := by
  funext y
  rw [show y = ix2 (y 0 : Fin 1024) (y 1 : Fin 5120) from funext fun a => match a with | ⟨0, _⟩ => rfl | ⟨1, _⟩ => rfl]
  exact ref_in x2 (y 0) (y 1)

theorem all_up : val_main_v45 (F := Ideal) x5 = fun y : S256x1024.Idx => x5 (ix3 0 (y 0) (y 1)) := by
  funext y
  rw [show y = ix2 (y 0 : Fin 256) (y 1 : Fin 1024) from funext fun a => match a with | ⟨0, _⟩ => rfl | ⟨1, _⟩ => rfl]
  exact ref_up x5 (y 0) (y 1)

theorem all_up' : val_main_v47 (F := Ideal) x6 = fun y : S512x1024.Idx => x6 (ix3 0 (y 0) (y 1)) := by
  funext y
  rw [show y = ix2 (y 0 : Fin 512) (y 1 : Fin 1024) from funext fun a => match a with | ⟨0, _⟩ => rfl | ⟨1, _⟩ => rfl]
  exact ref_up' x6 (y 0) (y 1)

theorem all_up'' : val_main_v49 (F := Ideal) x5 = fun y : S256x1024.Idx => x5 (ix3 0 (y 0) (y 1)) := by
  funext y
  rw [show y = ix2 (y 0 : Fin 256) (y 1 : Fin 1024) from funext fun a => match a with | ⟨0, _⟩ => rfl | ⟨1, _⟩ => rfl]
  exact ref_up'' x5 (y 0) (y 1)

theorem all_out : val_main_v51 (F := Ideal) x8 = fun y : S1024x1024.Idx => x8 (ix3 0 (y 0) (y 1)) := by
  funext y
  rw [show y = ix2 (y 0 : Fin 1024) (y 1 : Fin 1024) from funext fun a => match a with | ⟨0, _⟩ => rfl | ⟨1, _⟩ => rfl]
  exact ref_out x8 (y 0) (y 1)

theorem all_pool : val_main_v52 (F := Ideal) x3 = fun y : S256x256.Idx => diag (fun g a b => x3 (ix4 0 g a b)) (y 0) (y 1) := by
  funext y
  rw [show y = ix2 (y 0 : Fin 256) (y 1 : Fin 256) from funext fun a => match a with | ⟨0, _⟩ => rfl | ⟨1, _⟩ => rfl]
  exact ref_pool x3 (y 0) (y 1)

end Cert.Prep

end
-- ==== Proof.FfnReadsA.lean ====
module

public import proofs.«01_k».proof.Proof.FfnSpec

@[expose] public section

set_option maxRecDepth 16384

noncomputable section

namespace Cert.Ffn

open Idealize.ShloMosaic Cert.KernelIdeal Cert.KernelIdeal.Gen

variable (c : Dev nD) (i : grid0.Coords)
  (arg1 : Memref sig .tc .vmem S1024x1024 .f32) (harg1 : arg1.IsWhole) (arg2 : Memref sig .tc .vmem S1x1024 .f32) (harg2 : arg2.IsWhole)
  (arg3 : Memref sig .tc .vmem S1024x5632 .bf16) (harg3 : arg3.IsWhole) (arg4 : Memref sig .tc .vmem S3x5632 .f32) (harg4 : arg4.IsWhole)
  (arg5 : Memref sig .tc .vmem S1x5632 .f32) (harg5 : arg5.IsWhole) (arg6 : Memref sig .tc .vmem S2816x1024 .bf16) (harg6 : arg6.IsWhole)
  (arg7 : Memref sig .tc .vmem S1x1024 .f32) (harg7 : arg7.IsWhole) (arg8 : Memref sig .tc .vmem S1024x1024 .f32) (harg8 : arg8.IsWhole)
  (arg9 : Memref sig .tc .vmem S1024x1024 .bf16) (harg9 : arg9.IsWhole) (arg10 : Memref sig .tc .vmem S1032x256 .f32) (harg10 : arg10.IsWhole)
  (arg11 : Memref sig .tc .vmem S8x5632 .f32) (harg11 : arg11.IsWhole) (arg12 : Memref sig .tc .vmem S1024x2816 .bf16) (harg12 : arg12.IsWhole)
  (x0 : Vec Ideal S1024x1024 .f32) (x1 : Vec Ideal S1x1024 .f32) (x2 : Vec Ideal S1024x5632 .bf16) (x3 : Vec Ideal S3x5632 .f32)
  (x4 : Vec Ideal S1x5632 .f32) (x5 : Vec Ideal S2816x1024 .bf16) (x6 : Vec Ideal S1x1024 .f32) (xs2 : Vec Ideal S8x5632 .f32)

theorem A_h (r k : Fin 1024) : kernelRun0_A.sl.v21 (F := Ideal) c arg1 harg1 arg2 harg2 arg9 x0 x1 (ix2 r k) = rms (fun l => x0 (ix2 r l)) (fun l => x1 (ix2 0 l)) k := by
  unfold kernelRun0_A.sl.v21 kernelRun0_A.sl.HS0_1
  rw [View.readCov_cons_toLoadRect]
  simp only [View.readAt_eq_ld, harg1.read_unread, harg2.read_unread]
  unfold_payloads
  unfold rms
  pointwise

theorem A_v24 (r : Fin 8) (k : Fin 256) : kernelRun0_A.sl.v24 (F := Ideal) c arg11 (ix2 r k) = 0 := by
  unfold kernelRun0_A.sl.v24 kernelRun0_A.sl.HS2_1
  repeat rw [View.readCov_skip _ _ _ _ _ (by decide)]
  rw [View.readCov_fill _ _ _ _ _ (by decide)]
  unfold_payloads
  pointwise

theorem A_v57 (r : Fin 8) (k : Fin 256) : kernelRun0_A.sl.v57 (F := Ideal) c arg1 harg1 arg2 harg2 arg3 harg3 arg9 arg10 arg11 x0 x1 x2 (ix2 r k) = 0 := by
  unfold kernelRun0_A.sl.v57 kernelRun0_A.sl.HS2_2 kernelRun0_A.sl.HS2_1
  repeat rw [View.readCov_skip _ _ _ _ _ (by decide)]
  rw [View.readCov_fill _ _ _ _ _ (by decide)]
  unfold_payloads
  pointwise

theorem A_v103 (r : Fin 8) (k : Fin 256) : kernelRun0_A.sl.v103 (F := Ideal) c arg1 harg1 arg2 harg2 arg3 harg3 arg9 arg10 arg11 x0 x1 x2 (ix2 r k) = 0 := by
  unfold kernelRun0_A.sl.v103 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v136 (r : Fin 8) (k : Fin 256) : kernelRun0_A.sl.v136 (F := Ideal) c arg1 harg1 arg2 harg2 arg3 harg3 arg9 arg10 arg11 x0 x1 x2 (ix2 r k) = 0 := by
  unfold kernelRun0_A.sl.v136 kernelRun0_A.sl.HS2_4 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v182 (r : Fin 8) (k : Fin 256) : kernelRun0_A.sl.v182 (F := Ideal) c arg1 harg1 arg2 harg2 arg3 harg3 arg9 arg10 arg11 x0 x1 x2 (ix2 r k) = 0 := by
  unfold kernelRun0_A.sl.v182 kernelRun0_A.sl.HS2_5 kernelRun0_A.sl.HS2_4 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v215 (r : Fin 8) (k : Fin 256) : kernelRun0_A.sl.v215 (F := Ideal) c arg1 harg1 arg2 harg2 arg3 harg3 arg9 arg10 arg11 x0 x1 x2 (ix2 r k) = 0 := by
  unfold kernelRun0_A.sl.v215 kernelRun0_A.sl.HS2_6 kernelRun0_A.sl.HS2_5 kernelRun0_A.sl.HS2_4 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v261 (r : Fin 8) (k : Fin 256) : kernelRun0_A.sl.v261 (F := Ideal) c arg1 harg1 arg2 harg2 arg3 harg3 arg9 arg10 arg11 x0 x1 x2 (ix2 r k) = 0 := by
  unfold kernelRun0_A.sl.v261 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v294 (r : Fin 8) (k : Fin 256) : kernelRun0_A.sl.v294 (F := Ideal) c arg1 harg1 arg2 harg2 arg3 harg3 arg9 arg10 arg11 x0 x1 x2 (ix2 r k) = 0 := by
  unfold kernelRun0_A.sl.v294 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2
  unfold kernelRun0_A.sl.HS2_1
  repeat rw [View.readCov_skip _ _ _ _ _ (by decide)]
  rw [View.readCov_fill _ _ _ _ _ (by decide)]
  unfold_payloads
  pointwise

theorem A_v340 (r : Fin 8) (k : Fin 256) : kernelRun0_A.sl.v340 (F := Ideal) c arg1 harg1 arg2 harg2 arg3 harg3 arg9 arg10 arg11 x0 x1 x2 (ix2 r k) = 0 := by
  unfold kernelRun0_A.sl.v340 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3
  unfold kernelRun0_A.sl.HS2_2 kernelRun0_A.sl.HS2_1
  repeat rw [View.readCov_skip _ _ _ _ _ (by decide)]
  rw [View.readCov_fill _ _ _ _ _ (by decide)]
  unfold_payloads
  pointwise

theorem A_v373 (r : Fin 8) (k : Fin 256) : kernelRun0_A.sl.v373 (F := Ideal) c arg1 harg1 arg2 harg2 arg3 harg3 arg9 arg10 arg11 x0 x1 x2 (ix2 r k) = 0 := by
  unfold kernelRun0_A.sl.v373 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4
  unfold kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v419 (r : Fin 8) (k : Fin 256) : kernelRun0_A.sl.v419 (F := Ideal) c arg1 harg1 arg2 harg2 arg3 harg3 arg9 arg10 arg11 x0 x1 x2 (ix2 r k) = 0 := by
  unfold kernelRun0_A.sl.v419 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5
  unfold kernelRun0_A.sl.HS2_4 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v452 (r : Fin 8) (k : Fin 256) : kernelRun0_A.sl.v452 (F := Ideal) c arg1 harg1 arg2 harg2 arg3 harg3 arg9 arg10 arg11 x0 x1 x2 (ix2 r k) = 0 := by
  unfold kernelRun0_A.sl.v452 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6
  unfold kernelRun0_A.sl.HS2_5 kernelRun0_A.sl.HS2_4 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v498 (r : Fin 8) (k : Fin 256) : kernelRun0_A.sl.v498 (F := Ideal) c arg1 harg1 arg2 harg2 arg3 harg3 arg9 arg10 arg11 x0 x1 x2 (ix2 r k) = 0 := by
  unfold kernelRun0_A.sl.v498 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7
  unfold kernelRun0_A.sl.HS2_6 kernelRun0_A.sl.HS2_5 kernelRun0_A.sl.HS2_4 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v531 (r : Fin 8) (k : Fin 256) : kernelRun0_A.sl.v531 (F := Ideal) c arg1 harg1 arg2 harg2 arg3 harg3 arg9 arg10 arg11 x0 x1 x2 (ix2 r k) = 0 := by
  unfold kernelRun0_A.sl.v531 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8
  unfold kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v577 (r : Fin 8) (k : Fin 256) : kernelRun0_A.sl.v577 (F := Ideal) c arg1 harg1 arg2 harg2 arg3 harg3 arg9 arg10 arg11 x0 x1 x2 (ix2 r k) = 0 := by
  unfold kernelRun0_A.sl.v577 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9
  unfold kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v610 (r : Fin 8) (k : Fin 256) : kernelRun0_A.sl.v610 (F := Ideal) c arg1 harg1 arg2 harg2 arg3 harg3 arg9 arg10 arg11 x0 x1 x2 (ix2 r k) = 0 := by
  unfold kernelRun0_A.sl.v610 kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10
  unfold kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2
  unfold kernelRun0_A.sl.HS2_1
  repeat rw [View.readCov_skip _ _ _ _ _ (by decide)]
  rw [View.readCov_fill _ _ _ _ _ (by decide)]
  unfold_payloads
  pointwise

theorem A_v656 (r : Fin 8) (k : Fin 256) : kernelRun0_A.sl.v656 (F := Ideal) c arg1 harg1 arg2 harg2 arg3 harg3 arg9 arg10 arg11 x0 x1 x2 (ix2 r k) = 0 := by
  unfold kernelRun0_A.sl.v656 kernelRun0_A.sl.HS2_17 kernelRun0_A.sl.HS2_16 kernelRun0_A.sl.HS2_15 kernelRun0_A.sl.HS2_14 kernelRun0_A.sl.HS2_13 kernelRun0_A.sl.HS2_12 kernelRun0_A.sl.HS2_11
  unfold kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3
  unfold kernelRun0_A.sl.HS2_2 kernelRun0_A.sl.HS2_1
  repeat rw [View.readCov_skip _ _ _ _ _ (by decide)]
  rw [View.readCov_fill _ _ _ _ _ (by decide)]
  unfold_payloads
  pointwise

theorem A_v689 (r : Fin 8) (k : Fin 256) : kernelRun0_A.sl.v689 (F := Ideal) c arg1 harg1 arg2 harg2 arg3 harg3 arg9 arg10 arg11 x0 x1 x2 (ix2 r k) = 0 := by
  unfold kernelRun0_A.sl.v689 kernelRun0_A.sl.HS2_18 kernelRun0_A.sl.HS2_17 kernelRun0_A.sl.HS2_16 kernelRun0_A.sl.HS2_15 kernelRun0_A.sl.HS2_14 kernelRun0_A.sl.HS2_13 kernelRun0_A.sl.HS2_12
  unfold kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4
  unfold kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v735 (r : Fin 8) (k : Fin 256) : kernelRun0_A.sl.v735 (F := Ideal) c arg1 harg1 arg2 harg2 arg3 harg3 arg9 arg10 arg11 x0 x1 x2 (ix2 r k) = 0 := by
  unfold kernelRun0_A.sl.v735 kernelRun0_A.sl.HS2_19 kernelRun0_A.sl.HS2_18 kernelRun0_A.sl.HS2_17 kernelRun0_A.sl.HS2_16 kernelRun0_A.sl.HS2_15 kernelRun0_A.sl.HS2_14 kernelRun0_A.sl.HS2_13
  unfold kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5
  unfold kernelRun0_A.sl.HS2_4 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v768 (r : Fin 8) (k : Fin 256) : kernelRun0_A.sl.v768 (F := Ideal) c arg1 harg1 arg2 harg2 arg3 harg3 arg9 arg10 arg11 x0 x1 x2 (ix2 r k) = 0 := by
  unfold kernelRun0_A.sl.v768 kernelRun0_A.sl.HS2_20 kernelRun0_A.sl.HS2_19 kernelRun0_A.sl.HS2_18 kernelRun0_A.sl.HS2_17 kernelRun0_A.sl.HS2_16 kernelRun0_A.sl.HS2_15 kernelRun0_A.sl.HS2_14
  unfold kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6
  unfold kernelRun0_A.sl.HS2_5 kernelRun0_A.sl.HS2_4 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v814 (r : Fin 8) (k : Fin 256) : kernelRun0_A.sl.v814 (F := Ideal) c arg1 harg1 arg2 harg2 arg3 harg3 arg9 arg10 arg11 x0 x1 x2 (ix2 r k) = 0 := by
  unfold kernelRun0_A.sl.v814 kernelRun0_A.sl.HS2_21 kernelRun0_A.sl.HS2_20 kernelRun0_A.sl.HS2_19 kernelRun0_A.sl.HS2_18 kernelRun0_A.sl.HS2_17 kernelRun0_A.sl.HS2_16 kernelRun0_A.sl.HS2_15
  unfold kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7
  unfold kernelRun0_A.sl.HS2_6 kernelRun0_A.sl.HS2_5 kernelRun0_A.sl.HS2_4 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v847 (r : Fin 8) (k : Fin 256) : kernelRun0_A.sl.v847 (F := Ideal) c arg1 harg1 arg2 harg2 arg3 harg3 arg9 arg10 arg11 x0 x1 x2 (ix2 r k) = 0 := by
  unfold kernelRun0_A.sl.v847 kernelRun0_A.sl.HS2_22 kernelRun0_A.sl.HS2_21 kernelRun0_A.sl.HS2_20 kernelRun0_A.sl.HS2_19 kernelRun0_A.sl.HS2_18 kernelRun0_A.sl.HS2_17 kernelRun0_A.sl.HS2_16
  unfold kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8
  unfold kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  repeat rw [View.readCov_skip _ _ _ _ _ (by decide)]
  rw [View.readCov_fill _ _ _ _ _ (by decide)]
  unfold_payloads
  pointwise

theorem A_v31 (r : Fin 8) (k : Fin 256) : kernelRun0_A.sl.v31 (F := Ideal) c arg1 harg1 arg2 harg2 arg3 harg3 arg9 arg10 arg11 x0 x1 x2 (ix2 r k)
    = upRow x0 x1 x2 ⟨1024 + r.val - 8, by omega⟩ ⟨2816 + k.val, by omega⟩ := by
  unfold kernelRun0_A.sl.v31 kernelRun0_A.sl.HS1_2
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v42 (r : Fin 1024) (k : Fin 256) : kernelRun0_A.sl.v42 (F := Ideal) c arg1 harg1 arg2 harg2 arg3 harg3 arg9 arg10 arg11 x0 x1 x2 (ix2 r k)
    = back (fun _ _ => 0) (upRow x0 x1 x2) 6 (by decide) r ⟨2816 + k.val, by omega⟩ := by
  unfold kernelRun0_A.sl.v42 kernelRun0_A.sl.HS1_2
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v24]
  · skip
    unfold_payloads
    simp only [View.readAt_eq_ld, harg1.read_unread, harg2.read_unread, harg3.read_unread]
    pointwise
    simp only [A_h]

theorem A_v48 (r : Fin 1024) (k : Fin 256) : kernelRun0_A.sl.v48 (F := Ideal) c arg1 harg1 arg2 harg2 arg3 harg3 arg9 arg10 arg11 x0 x1 x2 (ix2 r k)
    = back (fun _ _ => 0) (upRow x0 x1 x2) 7 (by decide) r ⟨2816 + k.val, by omega⟩ := by
  unfold kernelRun0_A.sl.v48 kernelRun0_A.sl.HS1_2
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v24]
  · skip
    unfold_payloads
    simp only [View.readAt_eq_ld, harg1.read_unread, harg2.read_unread, harg3.read_unread]
    pointwise
    simp only [A_h]

theorem A_v64 (r : Fin 8) (k : Fin 256) : kernelRun0_A.sl.v64 (F := Ideal) c arg1 harg1 arg2 harg2 arg3 harg3 arg9 arg10 arg11 x0 x1 x2 (ix2 r k)
    = upRow x0 x1 x2 ⟨1024 + r.val - 8, by omega⟩ ⟨0 + k.val, by omega⟩ := by
  unfold kernelRun0_A.sl.v64 kernelRun0_A.sl.HS1_4
  refine (read_rows _ 8 1024 _ _ _ _ _ _ r k (by omega)).trans ?_
  unfold upRow
  rw [dif_neg (by omega)]
  unfold kernelRun0_A.sl.r_3
  unfold_payloads
  simp only [View.readAt_eq_ld, harg1.read_unread, harg2.read_unread, harg3.read_unread]
  pointwise
  simp only [A_h, Nat.zero_add]

theorem A_v75 (r : Fin 1024) (k : Fin 256) : kernelRun0_A.sl.v75 (F := Ideal) c arg1 harg1 arg2 harg2 arg3 harg3 arg9 arg10 arg11 x0 x1 x2 (ix2 r k)
    = back (fun _ _ => 0) (upRow x0 x1 x2) 6 (by decide) r ⟨0 + k.val, by omega⟩ := by
  unfold kernelRun0_A.sl.v75 kernelRun0_A.sl.HS1_4
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v57]
  · unfold kernelRun0_A.sl.r_3
    unfold_payloads
    simp only [View.readAt_eq_ld, harg1.read_unread, harg2.read_unread, harg3.read_unread]
    pointwise
    simp only [A_h]

theorem A_v81 (r : Fin 1024) (k : Fin 256) : kernelRun0_A.sl.v81 (F := Ideal) c arg1 harg1 arg2 harg2 arg3 harg3 arg9 arg10 arg11 x0 x1 x2 (ix2 r k)
    = back (fun _ _ => 0) (upRow x0 x1 x2) 7 (by decide) r ⟨0 + k.val, by omega⟩ := by
  unfold kernelRun0_A.sl.v81 kernelRun0_A.sl.HS1_4
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v57]
  · unfold kernelRun0_A.sl.r_3
    unfold_payloads
    simp only [View.readAt_eq_ld, harg1.read_unread, harg2.read_unread, harg3.read_unread]
    pointwise
    simp only [A_h]

theorem A_v110 (r : Fin 8) (k : Fin 256) : kernelRun0_A.sl.v110 (F := Ideal) c arg1 harg1 arg2 harg2 arg3 harg3 arg9 arg10 arg11 x0 x1 x2 (ix2 r k)
    = upRow x0 x1 x2 ⟨1024 + r.val - 8, by omega⟩ ⟨3072 + k.val, by omega⟩ := by
  unfold kernelRun0_A.sl.v110 kernelRun0_A.sl.HS1_6
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v121 (r : Fin 1024) (k : Fin 256) : kernelRun0_A.sl.v121 (F := Ideal) c arg1 harg1 arg2 harg2 arg3 harg3 arg9 arg10 arg11 x0 x1 x2 (ix2 r k)
    = back (fun _ _ => 0) (upRow x0 x1 x2) 6 (by decide) r ⟨3072 + k.val, by omega⟩ := by
  unfold kernelRun0_A.sl.v121 kernelRun0_A.sl.HS1_6
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v103]
  · skip
    unfold_payloads
    simp only [View.readAt_eq_ld, harg1.read_unread, harg2.read_unread, harg3.read_unread]
    pointwise
    simp only [A_h]

theorem A_v127 (r : Fin 1024) (k : Fin 256) : kernelRun0_A.sl.v127 (F := Ideal) c arg1 harg1 arg2 harg2 arg3 harg3 arg9 arg10 arg11 x0 x1 x2 (ix2 r k)
    = back (fun _ _ => 0) (upRow x0 x1 x2) 7 (by decide) r ⟨3072 + k.val, by omega⟩ := by
  unfold kernelRun0_A.sl.v127 kernelRun0_A.sl.HS1_6
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v103]
  · skip
    unfold_payloads
    simp only [View.readAt_eq_ld, harg1.read_unread, harg2.read_unread, harg3.read_unread]
    pointwise
    simp only [A_h]

theorem A_v143 (r : Fin 8) (k : Fin 256) : kernelRun0_A.sl.v143 (F := Ideal) c arg1 harg1 arg2 harg2 arg3 harg3 arg9 arg10 arg11 x0 x1 x2 (ix2 r k)
    = upRow x0 x1 x2 ⟨1024 + r.val - 8, by omega⟩ ⟨256 + k.val, by omega⟩ := by
  unfold kernelRun0_A.sl.v143 kernelRun0_A.sl.HS1_8
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v154 (r : Fin 1024) (k : Fin 256) : kernelRun0_A.sl.v154 (F := Ideal) c arg1 harg1 arg2 harg2 arg3 harg3 arg9 arg10 arg11 x0 x1 x2 (ix2 r k)
    = back (fun _ _ => 0) (upRow x0 x1 x2) 6 (by decide) r ⟨256 + k.val, by omega⟩ := by
  unfold kernelRun0_A.sl.v154 kernelRun0_A.sl.HS1_8
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v136]
  · skip
    unfold_payloads
    simp only [View.readAt_eq_ld, harg1.read_unread, harg2.read_unread, harg3.read_unread]
    pointwise
    simp only [A_h]

theorem A_v160 (r : Fin 1024) (k : Fin 256) : kernelRun0_A.sl.v160 (F := Ideal) c arg1 harg1 arg2 harg2 arg3 harg3 arg9 arg10 arg11 x0 x1 x2 (ix2 r k)
    = back (fun _ _ => 0) (upRow x0 x1 x2) 7 (by decide) r ⟨256 + k.val, by omega⟩ := by
  unfold kernelRun0_A.sl.v160 kernelRun0_A.sl.HS1_8
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v136]
  · skip
    unfold_payloads
    simp only [View.readAt_eq_ld, harg1.read_unread, harg2.read_unread, harg3.read_unread]
    pointwise
    simp only [A_h]

theorem A_v189 (r : Fin 8) (k : Fin 256) : kernelRun0_A.sl.v189 (F := Ideal) c arg1 harg1 arg2 harg2 arg3 harg3 arg9 arg10 arg11 x0 x1 x2 (ix2 r k)
    = upRow x0 x1 x2 ⟨1024 + r.val - 8, by omega⟩ ⟨3328 + k.val, by omega⟩ := by
  unfold kernelRun0_A.sl.v189 kernelRun0_A.sl.HS1_10
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v200 (r : Fin 1024) (k : Fin 256) : kernelRun0_A.sl.v200 (F := Ideal) c arg1 harg1 arg2 harg2 arg3 harg3 arg9 arg10 arg11 x0 x1 x2 (ix2 r k)
    = back (fun _ _ => 0) (upRow x0 x1 x2) 6 (by decide) r ⟨3328 + k.val, by omega⟩ := by
  unfold kernelRun0_A.sl.v200 kernelRun0_A.sl.HS1_10
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v182]
  · skip
    unfold_payloads
    simp only [View.readAt_eq_ld, harg1.read_unread, harg2.read_unread, harg3.read_unread]
    pointwise
    simp only [A_h]

theorem A_v206 (r : Fin 1024) (k : Fin 256) : kernelRun0_A.sl.v206 (F := Ideal) c arg1 harg1 arg2 harg2 arg3 harg3 arg9 arg10 arg11 x0 x1 x2 (ix2 r k)
    = back (fun _ _ => 0) (upRow x0 x1 x2) 7 (by decide) r ⟨3328 + k.val, by omega⟩ := by
  unfold kernelRun0_A.sl.v206 kernelRun0_A.sl.HS1_10
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v182]
  · skip
    unfold_payloads
    simp only [View.readAt_eq_ld, harg1.read_unread, harg2.read_unread, harg3.read_unread]
    pointwise
    simp only [A_h]

theorem A_v222 (r : Fin 8) (k : Fin 256) : kernelRun0_A.sl.v222 (F := Ideal) c arg1 harg1 arg2 harg2 arg3 harg3 arg9 arg10 arg11 x0 x1 x2 (ix2 r k)
    = upRow x0 x1 x2 ⟨1024 + r.val - 8, by omega⟩ ⟨512 + k.val, by omega⟩ := by
  unfold kernelRun0_A.sl.v222 kernelRun0_A.sl.HS1_12
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v233 (r : Fin 1024) (k : Fin 256) : kernelRun0_A.sl.v233 (F := Ideal) c arg1 harg1 arg2 harg2 arg3 harg3 arg9 arg10 arg11 x0 x1 x2 (ix2 r k)
    = back (fun _ _ => 0) (upRow x0 x1 x2) 6 (by decide) r ⟨512 + k.val, by omega⟩ := by
  unfold kernelRun0_A.sl.v233 kernelRun0_A.sl.HS1_12
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v215]
  · skip
    unfold_payloads
    simp only [View.readAt_eq_ld, harg1.read_unread, harg2.read_unread, harg3.read_unread]
    pointwise
    simp only [A_h]

theorem A_v239 (r : Fin 1024) (k : Fin 256) : kernelRun0_A.sl.v239 (F := Ideal) c arg1 harg1 arg2 harg2 arg3 harg3 arg9 arg10 arg11 x0 x1 x2 (ix2 r k)
    = back (fun _ _ => 0) (upRow x0 x1 x2) 7 (by decide) r ⟨512 + k.val, by omega⟩ := by
  unfold kernelRun0_A.sl.v239 kernelRun0_A.sl.HS1_12
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v215]
  · skip
    unfold_payloads
    simp only [View.readAt_eq_ld, harg1.read_unread, harg2.read_unread, harg3.read_unread]
    pointwise
    simp only [A_h]

theorem A_v268 (r : Fin 8) (k : Fin 256) : kernelRun0_A.sl.v268 (F := Ideal) c arg1 harg1 arg2 harg2 arg3 harg3 arg9 arg10 arg11 x0 x1 x2 (ix2 r k)
    = upRow x0 x1 x2 ⟨1024 + r.val - 8, by omega⟩ ⟨3584 + k.val, by omega⟩ := by
  unfold kernelRun0_A.sl.v268 kernelRun0_A.sl.HS1_14
  refine (read_rows _ 8 1024 _ _ _ _ _ _ r k (by omega)).trans ?_
  unfold upRow
  rw [dif_neg (by omega)]
  unfold kernelRun0_A.sl.r_12
  unfold_payloads
  simp only [View.readAt_eq_ld, harg1.read_unread, harg2.read_unread, harg3.read_unread]
  pointwise
  simp only [A_h, Nat.zero_add]

theorem A_v279 (r : Fin 1024) (k : Fin 256) : kernelRun0_A.sl.v279 (F := Ideal) c arg1 harg1 arg2 harg2 arg3 harg3 arg9 arg10 arg11 x0 x1 x2 (ix2 r k)
    = back (fun _ _ => 0) (upRow x0 x1 x2) 6 (by decide) r ⟨3584 + k.val, by omega⟩ := by
  unfold kernelRun0_A.sl.v279 kernelRun0_A.sl.HS1_14
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v261]
  · unfold kernelRun0_A.sl.r_12
    unfold_payloads
    simp only [View.readAt_eq_ld, harg1.read_unread, harg2.read_unread, harg3.read_unread]
    pointwise
    simp only [A_h]

theorem A_v285 (r : Fin 1024) (k : Fin 256) : kernelRun0_A.sl.v285 (F := Ideal) c arg1 harg1 arg2 harg2 arg3 harg3 arg9 arg10 arg11 x0 x1 x2 (ix2 r k)
    = back (fun _ _ => 0) (upRow x0 x1 x2) 7 (by decide) r ⟨3584 + k.val, by omega⟩ := by
  unfold kernelRun0_A.sl.v285 kernelRun0_A.sl.HS1_14
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v261]
  · unfold kernelRun0_A.sl.r_12
    unfold_payloads
    simp only [View.readAt_eq_ld, harg1.read_unread, harg2.read_unread, harg3.read_unread]
    pointwise
    simp only [A_h]

theorem A_v301 (r : Fin 8) (k : Fin 256) : kernelRun0_A.sl.v301 (F := Ideal) c arg1 harg1 arg2 harg2 arg3 harg3 arg9 arg10 arg11 x0 x1 x2 (ix2 r k)
    = upRow x0 x1 x2 ⟨1024 + r.val - 8, by omega⟩ ⟨768 + k.val, by omega⟩ := by
  unfold kernelRun0_A.sl.v301 kernelRun0_A.sl.HS1_16
  refine (read_rows _ 8 1024 _ _ _ _ _ _ r k (by omega)).trans ?_
  unfold upRow
  rw [dif_neg (by omega)]
  unfold kernelRun0_A.sl.r_14 kernelRun0_A.sl.cst_203
  unfold_payloads
  simp only [View.readAt_eq_ld, harg1.read_unread, harg2.read_unread, harg3.read_unread]
  pointwise
  simp only [A_h, Nat.zero_add]

theorem A_v312 (r : Fin 1024) (k : Fin 256) : kernelRun0_A.sl.v312 (F := Ideal) c arg1 harg1 arg2 harg2 arg3 harg3 arg9 arg10 arg11 x0 x1 x2 (ix2 r k)
    = back (fun _ _ => 0) (upRow x0 x1 x2) 6 (by decide) r ⟨768 + k.val, by omega⟩ := by
  unfold kernelRun0_A.sl.v312 kernelRun0_A.sl.HS1_16
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v294]
  · unfold kernelRun0_A.sl.r_14 kernelRun0_A.sl.cst_203
    unfold_payloads
    simp only [View.readAt_eq_ld, harg1.read_unread, harg2.read_unread, harg3.read_unread]
    pointwise
    simp only [A_h]

theorem A_v318 (r : Fin 1024) (k : Fin 256) : kernelRun0_A.sl.v318 (F := Ideal) c arg1 harg1 arg2 harg2 arg3 harg3 arg9 arg10 arg11 x0 x1 x2 (ix2 r k)
    = back (fun _ _ => 0) (upRow x0 x1 x2) 7 (by decide) r ⟨768 + k.val, by omega⟩ := by
  unfold kernelRun0_A.sl.v318 kernelRun0_A.sl.HS1_16
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v294]
  · unfold kernelRun0_A.sl.r_14 kernelRun0_A.sl.cst_203
    unfold_payloads
    simp only [View.readAt_eq_ld, harg1.read_unread, harg2.read_unread, harg3.read_unread]
    pointwise
    simp only [A_h]

theorem A_v347 (r : Fin 8) (k : Fin 256) : kernelRun0_A.sl.v347 (F := Ideal) c arg1 harg1 arg2 harg2 arg3 harg3 arg9 arg10 arg11 x0 x1 x2 (ix2 r k)
    = upRow x0 x1 x2 ⟨1024 + r.val - 8, by omega⟩ ⟨3840 + k.val, by omega⟩ := by
  unfold kernelRun0_A.sl.v347 kernelRun0_A.sl.HS1_18
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v358 (r : Fin 1024) (k : Fin 256) : kernelRun0_A.sl.v358 (F := Ideal) c arg1 harg1 arg2 harg2 arg3 harg3 arg9 arg10 arg11 x0 x1 x2 (ix2 r k)
    = back (fun _ _ => 0) (upRow x0 x1 x2) 6 (by decide) r ⟨3840 + k.val, by omega⟩ := by
  unfold kernelRun0_A.sl.v358 kernelRun0_A.sl.HS1_18
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v340]
  · skip
    unfold_payloads
    simp only [View.readAt_eq_ld, harg1.read_unread, harg2.read_unread, harg3.read_unread]
    pointwise
    simp only [A_h]

theorem A_v364 (r : Fin 1024) (k : Fin 256) : kernelRun0_A.sl.v364 (F := Ideal) c arg1 harg1 arg2 harg2 arg3 harg3 arg9 arg10 arg11 x0 x1 x2 (ix2 r k)
    = back (fun _ _ => 0) (upRow x0 x1 x2) 7 (by decide) r ⟨3840 + k.val, by omega⟩ := by
  unfold kernelRun0_A.sl.v364 kernelRun0_A.sl.HS1_18
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v340]
  · skip
    unfold_payloads
    simp only [View.readAt_eq_ld, harg1.read_unread, harg2.read_unread, harg3.read_unread]
    pointwise
    simp only [A_h]

theorem A_v380 (r : Fin 8) (k : Fin 256) : kernelRun0_A.sl.v380 (F := Ideal) c arg1 harg1 arg2 harg2 arg3 harg3 arg9 arg10 arg11 x0 x1 x2 (ix2 r k)
    = upRow x0 x1 x2 ⟨1024 + r.val - 8, by omega⟩ ⟨1024 + k.val, by omega⟩ := by
  unfold kernelRun0_A.sl.v380 kernelRun0_A.sl.HS1_20
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v391 (r : Fin 1024) (k : Fin 256) : kernelRun0_A.sl.v391 (F := Ideal) c arg1 harg1 arg2 harg2 arg3 harg3 arg9 arg10 arg11 x0 x1 x2 (ix2 r k)
    = back (fun _ _ => 0) (upRow x0 x1 x2) 6 (by decide) r ⟨1024 + k.val, by omega⟩ := by
  unfold kernelRun0_A.sl.v391 kernelRun0_A.sl.HS1_20
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v373]
  · skip
    unfold_payloads
    simp only [View.readAt_eq_ld, harg1.read_unread, harg2.read_unread, harg3.read_unread]
    pointwise
    simp only [A_h]

theorem A_v397 (r : Fin 1024) (k : Fin 256) : kernelRun0_A.sl.v397 (F := Ideal) c arg1 harg1 arg2 harg2 arg3 harg3 arg9 arg10 arg11 x0 x1 x2 (ix2 r k)
    = back (fun _ _ => 0) (upRow x0 x1 x2) 7 (by decide) r ⟨1024 + k.val, by omega⟩ := by
  unfold kernelRun0_A.sl.v397 kernelRun0_A.sl.HS1_20
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v373]
  · skip
    unfold_payloads
    simp only [View.readAt_eq_ld, harg1.read_unread, harg2.read_unread, harg3.read_unread]
    pointwise
    simp only [A_h]

theorem A_v426 (r : Fin 8) (k : Fin 256) : kernelRun0_A.sl.v426 (F := Ideal) c arg1 harg1 arg2 harg2 arg3 harg3 arg9 arg10 arg11 x0 x1 x2 (ix2 r k)
    = upRow x0 x1 x2 ⟨1024 + r.val - 8, by omega⟩ ⟨4096 + k.val, by omega⟩ := by
  unfold kernelRun0_A.sl.v426 kernelRun0_A.sl.HS1_22 kernelRun0_A.sl.HS1_21
  refine (read_rows _ 8 1024 _ _ _ _ _ _ r k (by omega)).trans ?_
  unfold upRow
  rw [dif_neg (by omega)]
  unfold kernelRun0_A.sl.r_21
  unfold_payloads
  simp only [View.readAt_eq_ld, harg1.read_unread, harg2.read_unread, harg3.read_unread]
  pointwise
  simp only [A_h, Nat.zero_add]

theorem A_v437 (r : Fin 1024) (k : Fin 256) : kernelRun0_A.sl.v437 (F := Ideal) c arg1 harg1 arg2 harg2 arg3 harg3 arg9 arg10 arg11 x0 x1 x2 (ix2 r k)
    = back (fun _ _ => 0) (upRow x0 x1 x2) 6 (by decide) r ⟨4096 + k.val, by omega⟩ := by
  unfold kernelRun0_A.sl.v437 kernelRun0_A.sl.HS1_22 kernelRun0_A.sl.HS1_21
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v419]
  · unfold kernelRun0_A.sl.r_21
    unfold_payloads
    simp only [View.readAt_eq_ld, harg1.read_unread, harg2.read_unread, harg3.read_unread]
    pointwise
    simp only [A_h]

theorem A_v443 (r : Fin 1024) (k : Fin 256) : kernelRun0_A.sl.v443 (F := Ideal) c arg1 harg1 arg2 harg2 arg3 harg3 arg9 arg10 arg11 x0 x1 x2 (ix2 r k)
    = back (fun _ _ => 0) (upRow x0 x1 x2) 7 (by decide) r ⟨4096 + k.val, by omega⟩ := by
  unfold kernelRun0_A.sl.v443 kernelRun0_A.sl.HS1_22 kernelRun0_A.sl.HS1_21
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v419]
  · unfold kernelRun0_A.sl.r_21
    unfold_payloads
    simp only [View.readAt_eq_ld, harg1.read_unread, harg2.read_unread, harg3.read_unread]
    pointwise
    simp only [A_h]

theorem A_v459 (r : Fin 8) (k : Fin 256) : kernelRun0_A.sl.v459 (F := Ideal) c arg1 harg1 arg2 harg2 arg3 harg3 arg9 arg10 arg11 x0 x1 x2 (ix2 r k)
    = upRow x0 x1 x2 ⟨1024 + r.val - 8, by omega⟩ ⟨1280 + k.val, by omega⟩ := by
  unfold kernelRun0_A.sl.v459 kernelRun0_A.sl.HS1_24
  refine (read_rows _ 8 1024 _ _ _ _ _ _ r k (by omega)).trans ?_
  unfold upRow
  rw [dif_neg (by omega)]
  unfold kernelRun0_A.sl.r_23
  unfold_payloads
  simp only [View.readAt_eq_ld, harg1.read_unread, harg2.read_unread, harg3.read_unread]
  pointwise
  simp only [A_h, Nat.zero_add]

theorem A_v470 (r : Fin 1024) (k : Fin 256) : kernelRun0_A.sl.v470 (F := Ideal) c arg1 harg1 arg2 harg2 arg3 harg3 arg9 arg10 arg11 x0 x1 x2 (ix2 r k)
    = back (fun _ _ => 0) (upRow x0 x1 x2) 6 (by decide) r ⟨1280 + k.val, by omega⟩ := by
  unfold kernelRun0_A.sl.v470 kernelRun0_A.sl.HS1_24
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v452]
  · unfold kernelRun0_A.sl.r_23
    unfold_payloads
    simp only [View.readAt_eq_ld, harg1.read_unread, harg2.read_unread, harg3.read_unread]
    pointwise
    simp only [A_h]

theorem A_v476 (r : Fin 1024) (k : Fin 256) : kernelRun0_A.sl.v476 (F := Ideal) c arg1 harg1 arg2 harg2 arg3 harg3 arg9 arg10 arg11 x0 x1 x2 (ix2 r k)
    = back (fun _ _ => 0) (upRow x0 x1 x2) 7 (by decide) r ⟨1280 + k.val, by omega⟩ := by
  unfold kernelRun0_A.sl.v476 kernelRun0_A.sl.HS1_24
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v452]
  · unfold kernelRun0_A.sl.r_23
    unfold_payloads
    simp only [View.readAt_eq_ld, harg1.read_unread, harg2.read_unread, harg3.read_unread]
    pointwise
    simp only [A_h]

theorem A_v505 (r : Fin 8) (k : Fin 256) : kernelRun0_A.sl.v505 (F := Ideal) c arg1 harg1 arg2 harg2 arg3 harg3 arg9 arg10 arg11 x0 x1 x2 (ix2 r k)
    = upRow x0 x1 x2 ⟨1024 + r.val - 8, by omega⟩ ⟨4352 + k.val, by omega⟩ := by
  unfold kernelRun0_A.sl.v505 kernelRun0_A.sl.HS1_26
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v516 (r : Fin 1024) (k : Fin 256) : kernelRun0_A.sl.v516 (F := Ideal) c arg1 harg1 arg2 harg2 arg3 harg3 arg9 arg10 arg11 x0 x1 x2 (ix2 r k)
    = back (fun _ _ => 0) (upRow x0 x1 x2) 6 (by decide) r ⟨4352 + k.val, by omega⟩ := by
  unfold kernelRun0_A.sl.v516 kernelRun0_A.sl.HS1_26
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v498]
  · skip
    unfold_payloads
    simp only [View.readAt_eq_ld, harg1.read_unread, harg2.read_unread, harg3.read_unread]
    pointwise
    simp only [A_h]

theorem A_v522 (r : Fin 1024) (k : Fin 256) : kernelRun0_A.sl.v522 (F := Ideal) c arg1 harg1 arg2 harg2 arg3 harg3 arg9 arg10 arg11 x0 x1 x2 (ix2 r k)
    = back (fun _ _ => 0) (upRow x0 x1 x2) 7 (by decide) r ⟨4352 + k.val, by omega⟩ := by
  unfold kernelRun0_A.sl.v522 kernelRun0_A.sl.HS1_26
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v498]
  · skip
    unfold_payloads
    simp only [View.readAt_eq_ld, harg1.read_unread, harg2.read_unread, harg3.read_unread]
    pointwise
    simp only [A_h]

theorem A_v538 (r : Fin 8) (k : Fin 256) : kernelRun0_A.sl.v538 (F := Ideal) c arg1 harg1 arg2 harg2 arg3 harg3 arg9 arg10 arg11 x0 x1 x2 (ix2 r k)
    = upRow x0 x1 x2 ⟨1024 + r.val - 8, by omega⟩ ⟨1536 + k.val, by omega⟩ := by
  unfold kernelRun0_A.sl.v538 kernelRun0_A.sl.HS1_28
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v549 (r : Fin 1024) (k : Fin 256) : kernelRun0_A.sl.v549 (F := Ideal) c arg1 harg1 arg2 harg2 arg3 harg3 arg9 arg10 arg11 x0 x1 x2 (ix2 r k)
    = back (fun _ _ => 0) (upRow x0 x1 x2) 6 (by decide) r ⟨1536 + k.val, by omega⟩ := by
  unfold kernelRun0_A.sl.v549 kernelRun0_A.sl.HS1_28
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v531]
  · skip
    unfold_payloads
    simp only [View.readAt_eq_ld, harg1.read_unread, harg2.read_unread, harg3.read_unread]
    pointwise
    simp only [A_h]

theorem A_v555 (r : Fin 1024) (k : Fin 256) : kernelRun0_A.sl.v555 (F := Ideal) c arg1 harg1 arg2 harg2 arg3 harg3 arg9 arg10 arg11 x0 x1 x2 (ix2 r k)
    = back (fun _ _ => 0) (upRow x0 x1 x2) 7 (by decide) r ⟨1536 + k.val, by omega⟩ := by
  unfold kernelRun0_A.sl.v555 kernelRun0_A.sl.HS1_28
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v531]
  · skip
    unfold_payloads
    simp only [View.readAt_eq_ld, harg1.read_unread, harg2.read_unread, harg3.read_unread]
    pointwise
    simp only [A_h]

theorem A_v584 (r : Fin 8) (k : Fin 256) : kernelRun0_A.sl.v584 (F := Ideal) c arg1 harg1 arg2 harg2 arg3 harg3 arg9 arg10 arg11 x0 x1 x2 (ix2 r k)
    = upRow x0 x1 x2 ⟨1024 + r.val - 8, by omega⟩ ⟨4608 + k.val, by omega⟩ := by
  unfold kernelRun0_A.sl.v584 kernelRun0_A.sl.HS1_30
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v595 (r : Fin 1024) (k : Fin 256) : kernelRun0_A.sl.v595 (F := Ideal) c arg1 harg1 arg2 harg2 arg3 harg3 arg9 arg10 arg11 x0 x1 x2 (ix2 r k)
    = back (fun _ _ => 0) (upRow x0 x1 x2) 6 (by decide) r ⟨4608 + k.val, by omega⟩ := by
  unfold kernelRun0_A.sl.v595 kernelRun0_A.sl.HS1_30
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v577]
  · skip
    unfold_payloads
    simp only [View.readAt_eq_ld, harg1.read_unread, harg2.read_unread, harg3.read_unread]
    pointwise
    simp only [A_h]

theorem A_v601 (r : Fin 1024) (k : Fin 256) : kernelRun0_A.sl.v601 (F := Ideal) c arg1 harg1 arg2 harg2 arg3 harg3 arg9 arg10 arg11 x0 x1 x2 (ix2 r k)
    = back (fun _ _ => 0) (upRow x0 x1 x2) 7 (by decide) r ⟨4608 + k.val, by omega⟩ := by
  unfold kernelRun0_A.sl.v601 kernelRun0_A.sl.HS1_30
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v577]
  · skip
    unfold_payloads
    simp only [View.readAt_eq_ld, harg1.read_unread, harg2.read_unread, harg3.read_unread]
    pointwise
    simp only [A_h]

theorem A_v617 (r : Fin 8) (k : Fin 256) : kernelRun0_A.sl.v617 (F := Ideal) c arg1 harg1 arg2 harg2 arg3 harg3 arg9 arg10 arg11 x0 x1 x2 (ix2 r k)
    = upRow x0 x1 x2 ⟨1024 + r.val - 8, by omega⟩ ⟨1792 + k.val, by omega⟩ := by
  unfold kernelRun0_A.sl.v617 kernelRun0_A.sl.HS1_32
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v628 (r : Fin 1024) (k : Fin 256) : kernelRun0_A.sl.v628 (F := Ideal) c arg1 harg1 arg2 harg2 arg3 harg3 arg9 arg10 arg11 x0 x1 x2 (ix2 r k)
    = back (fun _ _ => 0) (upRow x0 x1 x2) 6 (by decide) r ⟨1792 + k.val, by omega⟩ := by
  unfold kernelRun0_A.sl.v628 kernelRun0_A.sl.HS1_32
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v610]
  · skip
    unfold_payloads
    simp only [View.readAt_eq_ld, harg1.read_unread, harg2.read_unread, harg3.read_unread]
    pointwise
    simp only [A_h]

theorem A_v634 (r : Fin 1024) (k : Fin 256) : kernelRun0_A.sl.v634 (F := Ideal) c arg1 harg1 arg2 harg2 arg3 harg3 arg9 arg10 arg11 x0 x1 x2 (ix2 r k)
    = back (fun _ _ => 0) (upRow x0 x1 x2) 7 (by decide) r ⟨1792 + k.val, by omega⟩ := by
  unfold kernelRun0_A.sl.v634 kernelRun0_A.sl.HS1_32
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v610]
  · skip
    unfold_payloads
    simp only [View.readAt_eq_ld, harg1.read_unread, harg2.read_unread, harg3.read_unread]
    pointwise
    simp only [A_h]

theorem A_v663 (r : Fin 8) (k : Fin 256) : kernelRun0_A.sl.v663 (F := Ideal) c arg1 harg1 arg2 harg2 arg3 harg3 arg9 arg10 arg11 x0 x1 x2 (ix2 r k)
    = upRow x0 x1 x2 ⟨1024 + r.val - 8, by omega⟩ ⟨4864 + k.val, by omega⟩ := by
  unfold kernelRun0_A.sl.v663 kernelRun0_A.sl.HS1_34
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v674 (r : Fin 1024) (k : Fin 256) : kernelRun0_A.sl.v674 (F := Ideal) c arg1 harg1 arg2 harg2 arg3 harg3 arg9 arg10 arg11 x0 x1 x2 (ix2 r k)
    = back (fun _ _ => 0) (upRow x0 x1 x2) 6 (by decide) r ⟨4864 + k.val, by omega⟩ := by
  unfold kernelRun0_A.sl.v674 kernelRun0_A.sl.HS1_34
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v656]
  · skip
    unfold_payloads
    simp only [View.readAt_eq_ld, harg1.read_unread, harg2.read_unread, harg3.read_unread]
    pointwise
    simp only [A_h]

theorem A_v680 (r : Fin 1024) (k : Fin 256) : kernelRun0_A.sl.v680 (F := Ideal) c arg1 harg1 arg2 harg2 arg3 harg3 arg9 arg10 arg11 x0 x1 x2 (ix2 r k)
    = back (fun _ _ => 0) (upRow x0 x1 x2) 7 (by decide) r ⟨4864 + k.val, by omega⟩ := by
  unfold kernelRun0_A.sl.v680 kernelRun0_A.sl.HS1_34
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v656]
  · skip
    unfold_payloads
    simp only [View.readAt_eq_ld, harg1.read_unread, harg2.read_unread, harg3.read_unread]
    pointwise
    simp only [A_h]

theorem A_v696 (r : Fin 8) (k : Fin 256) : kernelRun0_A.sl.v696 (F := Ideal) c arg1 harg1 arg2 harg2 arg3 harg3 arg9 arg10 arg11 x0 x1 x2 (ix2 r k)
    = upRow x0 x1 x2 ⟨1024 + r.val - 8, by omega⟩ ⟨2048 + k.val, by omega⟩ := by
  unfold kernelRun0_A.sl.v696 kernelRun0_A.sl.HS1_36
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v707 (r : Fin 1024) (k : Fin 256) : kernelRun0_A.sl.v707 (F := Ideal) c arg1 harg1 arg2 harg2 arg3 harg3 arg9 arg10 arg11 x0 x1 x2 (ix2 r k)
    = back (fun _ _ => 0) (upRow x0 x1 x2) 6 (by decide) r ⟨2048 + k.val, by omega⟩ := by
  unfold kernelRun0_A.sl.v707 kernelRun0_A.sl.HS1_36
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v689]
  · skip
    unfold_payloads
    simp only [View.readAt_eq_ld, harg1.read_unread, harg2.read_unread, harg3.read_unread]
    pointwise
    simp only [A_h]

theorem A_v713 (r : Fin 1024) (k : Fin 256) : kernelRun0_A.sl.v713 (F := Ideal) c arg1 harg1 arg2 harg2 arg3 harg3 arg9 arg10 arg11 x0 x1 x2 (ix2 r k)
    = back (fun _ _ => 0) (upRow x0 x1 x2) 7 (by decide) r ⟨2048 + k.val, by omega⟩ := by
  unfold kernelRun0_A.sl.v713 kernelRun0_A.sl.HS1_36
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v689]
  · skip
    unfold_payloads
    simp only [View.readAt_eq_ld, harg1.read_unread, harg2.read_unread, harg3.read_unread]
    pointwise
    simp only [A_h]

theorem A_v742 (r : Fin 8) (k : Fin 256) : kernelRun0_A.sl.v742 (F := Ideal) c arg1 harg1 arg2 harg2 arg3 harg3 arg9 arg10 arg11 x0 x1 x2 (ix2 r k)
    = upRow x0 x1 x2 ⟨1024 + r.val - 8, by omega⟩ ⟨5120 + k.val, by omega⟩ := by
  unfold kernelRun0_A.sl.v742 kernelRun0_A.sl.HS1_38
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v753 (r : Fin 1024) (k : Fin 256) : kernelRun0_A.sl.v753 (F := Ideal) c arg1 harg1 arg2 harg2 arg3 harg3 arg9 arg10 arg11 x0 x1 x2 (ix2 r k)
    = back (fun _ _ => 0) (upRow x0 x1 x2) 6 (by decide) r ⟨5120 + k.val, by omega⟩ := by
  unfold kernelRun0_A.sl.v753 kernelRun0_A.sl.HS1_38
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v735]
  · skip
    unfold_payloads
    simp only [View.readAt_eq_ld, harg1.read_unread, harg2.read_unread, harg3.read_unread]
    pointwise
    simp only [A_h]

theorem A_v759 (r : Fin 1024) (k : Fin 256) : kernelRun0_A.sl.v759 (F := Ideal) c arg1 harg1 arg2 harg2 arg3 harg3 arg9 arg10 arg11 x0 x1 x2 (ix2 r k)
    = back (fun _ _ => 0) (upRow x0 x1 x2) 7 (by decide) r ⟨5120 + k.val, by omega⟩ := by
  unfold kernelRun0_A.sl.v759 kernelRun0_A.sl.HS1_38
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v735]
  · skip
    unfold_payloads
    simp only [View.readAt_eq_ld, harg1.read_unread, harg2.read_unread, harg3.read_unread]
    pointwise
    simp only [A_h]

theorem A_v775 (r : Fin 8) (k : Fin 256) : kernelRun0_A.sl.v775 (F := Ideal) c arg1 harg1 arg2 harg2 arg3 harg3 arg9 arg10 arg11 x0 x1 x2 (ix2 r k)
    = upRow x0 x1 x2 ⟨1024 + r.val - 8, by omega⟩ ⟨2304 + k.val, by omega⟩ := by
  unfold kernelRun0_A.sl.v775 kernelRun0_A.sl.HS1_40
  refine (read_rows _ 8 1024 _ _ _ _ _ _ r k (by omega)).trans ?_
  unfold upRow
  rw [dif_neg (by omega)]

  unfold_payloads
  simp only [View.readAt_eq_ld, harg1.read_unread, harg2.read_unread, harg3.read_unread]
  pointwise
  simp only [A_h, Nat.zero_add]

theorem A_v786 (r : Fin 1024) (k : Fin 256) : kernelRun0_A.sl.v786 (F := Ideal) c arg1 harg1 arg2 harg2 arg3 harg3 arg9 arg10 arg11 x0 x1 x2 (ix2 r k)
    = back (fun _ _ => 0) (upRow x0 x1 x2) 6 (by decide) r ⟨2304 + k.val, by omega⟩ := by
  unfold kernelRun0_A.sl.v786 kernelRun0_A.sl.HS1_40
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v768]
  · skip
    unfold_payloads
    simp only [View.readAt_eq_ld, harg1.read_unread, harg2.read_unread, harg3.read_unread]
    pointwise
    simp only [A_h]

theorem A_v792 (r : Fin 1024) (k : Fin 256) : kernelRun0_A.sl.v792 (F := Ideal) c arg1 harg1 arg2 harg2 arg3 harg3 arg9 arg10 arg11 x0 x1 x2 (ix2 r k)
    = back (fun _ _ => 0) (upRow x0 x1 x2) 7 (by decide) r ⟨2304 + k.val, by omega⟩ := by
  unfold kernelRun0_A.sl.v792 kernelRun0_A.sl.HS1_40
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v768]
  · skip
    unfold_payloads
    simp only [View.readAt_eq_ld, harg1.read_unread, harg2.read_unread, harg3.read_unread]
    pointwise
    simp only [A_h]

theorem A_v821 (r : Fin 8) (k : Fin 256) : kernelRun0_A.sl.v821 (F := Ideal) c arg1 harg1 arg2 harg2 arg3 harg3 arg9 arg10 arg11 x0 x1 x2 (ix2 r k)
    = upRow x0 x1 x2 ⟨1024 + r.val - 8, by omega⟩ ⟨5376 + k.val, by omega⟩ := by
  unfold kernelRun0_A.sl.v821 kernelRun0_A.sl.HS1_42
  refine (read_rows _ 8 1024 _ _ _ _ _ _ r k (by omega)).trans ?_
  unfold upRow
  rw [dif_neg (by omega)]
  unfold kernelRun0_A.sl.r_41
  unfold_payloads
  simp only [View.readAt_eq_ld, harg1.read_unread, harg2.read_unread, harg3.read_unread]
  pointwise
  simp only [A_h, Nat.zero_add]

theorem A_v832 (r : Fin 1024) (k : Fin 256) : kernelRun0_A.sl.v832 (F := Ideal) c arg1 harg1 arg2 harg2 arg3 harg3 arg9 arg10 arg11 x0 x1 x2 (ix2 r k)
    = back (fun _ _ => 0) (upRow x0 x1 x2) 6 (by decide) r ⟨5376 + k.val, by omega⟩ := by
  unfold kernelRun0_A.sl.v832 kernelRun0_A.sl.HS1_42
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v814]
  · unfold kernelRun0_A.sl.r_41
    unfold_payloads
    simp only [View.readAt_eq_ld, harg1.read_unread, harg2.read_unread, harg3.read_unread]
    pointwise
    simp only [A_h]

theorem A_v838 (r : Fin 1024) (k : Fin 256) : kernelRun0_A.sl.v838 (F := Ideal) c arg1 harg1 arg2 harg2 arg3 harg3 arg9 arg10 arg11 x0 x1 x2 (ix2 r k)
    = back (fun _ _ => 0) (upRow x0 x1 x2) 7 (by decide) r ⟨5376 + k.val, by omega⟩ := by
  unfold kernelRun0_A.sl.v838 kernelRun0_A.sl.HS1_42
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v814]
  · unfold kernelRun0_A.sl.r_41
    unfold_payloads
    simp only [View.readAt_eq_ld, harg1.read_unread, harg2.read_unread, harg3.read_unread]
    pointwise
    simp only [A_h]

theorem A_v854 (r : Fin 8) (k : Fin 256) : kernelRun0_A.sl.v854 (F := Ideal) c arg1 harg1 arg2 harg2 arg3 harg3 arg9 arg10 arg11 x0 x1 x2 (ix2 r k)
    = upRow x0 x1 x2 ⟨1024 + r.val - 8, by omega⟩ ⟨2560 + k.val, by omega⟩ := by
  unfold kernelRun0_A.sl.v854 kernelRun0_A.sl.HS1_44
  refine (read_rows _ 8 1024 _ _ _ _ _ _ r k (by omega)).trans ?_
  unfold upRow
  rw [dif_neg (by omega)]
  unfold kernelRun0_A.sl.r_43
  unfold_payloads
  simp only [View.readAt_eq_ld, harg1.read_unread, harg2.read_unread, harg3.read_unread]
  pointwise
  simp only [A_h, Nat.zero_add]

theorem A_v865 (r : Fin 1024) (k : Fin 256) : kernelRun0_A.sl.v865 (F := Ideal) c arg1 harg1 arg2 harg2 arg3 harg3 arg9 arg10 arg11 x0 x1 x2 (ix2 r k)
    = back (fun _ _ => 0) (upRow x0 x1 x2) 6 (by decide) r ⟨2560 + k.val, by omega⟩ := by
  unfold kernelRun0_A.sl.v865 kernelRun0_A.sl.HS1_44
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v847]
  · unfold kernelRun0_A.sl.r_43
    unfold_payloads
    simp only [View.readAt_eq_ld, harg1.read_unread, harg2.read_unread, harg3.read_unread]
    pointwise
    simp only [A_h]

theorem A_v871 (r : Fin 1024) (k : Fin 256) : kernelRun0_A.sl.v871 (F := Ideal) c arg1 harg1 arg2 harg2 arg3 harg3 arg9 arg10 arg11 x0 x1 x2 (ix2 r k)
    = back (fun _ _ => 0) (upRow x0 x1 x2) 7 (by decide) r ⟨2560 + k.val, by omega⟩ := by
  unfold kernelRun0_A.sl.v871 kernelRun0_A.sl.HS1_44
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread]
    pointwise
    simp only [A_v847]
  · unfold kernelRun0_A.sl.r_43
    unfold_payloads
    simp only [View.readAt_eq_ld, harg1.read_unread, harg2.read_unread, harg3.read_unread]
    pointwise
    simp only [A_h]

end Cert.Ffn

end
-- ==== Proof.FfnHiddenA.lean ====
module

public import proofs.«01_k».proof.Proof.FfnReadsA

@[expose] public section

set_option maxRecDepth 16384

noncomputable section

namespace Cert.Ffn

open Idealize.ShloMosaic Cert.KernelIdeal Cert.KernelIdeal.Gen

variable (c : Dev nD) (i : grid0.Coords)
  (arg1 : Memref sig .tc .vmem S1024x1024 .f32) (harg1 : arg1.IsWhole) (arg2 : Memref sig .tc .vmem S1x1024 .f32) (harg2 : arg2.IsWhole)
  (arg3 : Memref sig .tc .vmem S1024x5632 .bf16) (harg3 : arg3.IsWhole) (arg4 : Memref sig .tc .vmem S3x5632 .f32) (harg4 : arg4.IsWhole)
  (arg5 : Memref sig .tc .vmem S1x5632 .f32) (harg5 : arg5.IsWhole) (arg6 : Memref sig .tc .vmem S2816x1024 .bf16) (harg6 : arg6.IsWhole)
  (arg7 : Memref sig .tc .vmem S1x1024 .f32) (harg7 : arg7.IsWhole) (arg8 : Memref sig .tc .vmem S1024x1024 .f32) (harg8 : arg8.IsWhole)
  (arg9 : Memref sig .tc .vmem S1024x1024 .bf16) (harg9 : arg9.IsWhole) (arg10 : Memref sig .tc .vmem S1032x256 .f32) (harg10 : arg10.IsWhole)
  (arg11 : Memref sig .tc .vmem S8x5632 .f32) (harg11 : arg11.IsWhole) (arg12 : Memref sig .tc .vmem S1024x2816 .bf16) (harg12 : arg12.IsWhole)
  (x0 : Vec Ideal S1024x1024 .f32) (x1 : Vec Ideal S1x1024 .f32) (x2 : Vec Ideal S1024x5632 .bf16) (x3 : Vec Ideal S3x5632 .f32)
  (x4 : Vec Ideal S1x5632 .f32) (x5 : Vec Ideal S2816x1024 .bf16) (x6 : Vec Ideal S1x1024 .f32) (xs2 : Vec Ideal S8x5632 .f32)

theorem A_hid10 (r : Fin 1024) (k : Fin 256) : k0_pay132 (kernelRun0_A.sl.r_42 c arg1 harg1 arg2 harg2 arg3 harg3 arg4 harg4 arg5 harg5 arg9 arg10 arg11 x0 x1 x2 x3 x4) (kernelRun0_A.sl.r_44 c arg1 harg1 arg2 harg2 arg3 harg3 arg4 harg4 arg5 harg5 arg9 arg10 arg11 x0 x1 x2 x3 x4) (kernelRun0_A.sl.r_45 c arg1 harg1 arg2 harg2 arg3 harg3 arg4 harg4 arg5 harg5 arg9 arg10 arg11 x0 x1 x2 x3 x4) k0_pay131 (ix2 r k)
    = hidden (conv (fun _ _ => 0) (upRow x0 x1 x2) x3 x4) r ⟨2560 + k.val, by omega⟩ := by
  unfold kernelRun0_A.sl.r_42 kernelRun0_A.sl.r_44 kernelRun0_A.sl.r_45 kernelRun0_A.sl.r_41 kernelRun0_A.sl.r_43
  unfold_payloads
  unfold hidden gated conv
  simp only [View.readAt_eq_ld, harg1.read_unread, harg2.read_unread, harg3.read_unread, harg4.read_unread, harg5.read_unread]
  pointwise
  simp only [A_v832, A_v838, A_v865, A_v871, A_h, upRow, Nat.zero_add, ← Nat.add_assoc, Nat.reduceAdd]

theorem A_hid9 (r : Fin 1024) (k : Fin 256) : k0_pay118 (kernelRun0_A.sl.r_38 c arg1 harg1 arg2 harg2 arg3 harg3 arg4 harg4 arg5 harg5 arg9 arg10 arg11 x0 x1 x2 x3 x4) (kernelRun0_A.sl.r_39 c arg1 harg1 arg2 harg2 arg3 harg3 arg9 x0 x1 x2) (kernelRun0_A.sl.r_40 c arg5 harg5 x4) (View.readAt (Elt Ideal) arg4.view (Rect.unit (s := S3x5632) ![2, 2304] S1x256.size inb_S3x5632_S1x256_2_2304).toLoadRect (harg4.unread x3)) (kernelRun0_A.sl.v786 c arg1 harg1 arg2 harg2 arg3 harg3 arg9 arg10 arg11 x0 x1 x2) (View.readAt (Elt Ideal) arg4.view (Rect.unit (s := S3x5632) ![0, 2304] S1x256.size inb_S3x5632_S1x256_0_2304).toLoadRect (harg4.unread x3)) (kernelRun0_A.sl.v792 c arg1 harg1 arg2 harg2 arg3 harg3 arg9 arg10 arg11 x0 x1 x2) (View.readAt (Elt Ideal) arg4.view (Rect.unit (s := S3x5632) ![1, 2304] S1x256.size inb_S3x5632_S1x256_1_2304).toLoadRect (harg4.unread x3)) (ix2 r k)
    = hidden (conv (fun _ _ => 0) (upRow x0 x1 x2) x3 x4) r ⟨2304 + k.val, by omega⟩ := by
  unfold kernelRun0_A.sl.r_38 kernelRun0_A.sl.r_39 kernelRun0_A.sl.r_40 kernelRun0_A.sl.r_35 kernelRun0_A.sl.r_36 kernelRun0_A.sl.r_37
  unfold_payloads
  unfold hidden gated conv
  simp only [View.readAt_eq_ld, harg1.read_unread, harg2.read_unread, harg3.read_unread, harg4.read_unread, harg5.read_unread]
  pointwise
  simp only [A_v786, A_v792, A_v753, A_v759, A_h, upRow, Nat.zero_add, ← Nat.add_assoc, Nat.reduceAdd]

theorem A_hid8 (r : Fin 1024) (k : Fin 256) : k0_pay107 (kernelRun0_A.sl.r_32 c arg1 harg1 arg2 harg2 arg3 harg3 arg4 harg4 arg5 harg5 arg9 arg10 arg11 x0 x1 x2 x3 x4) (kernelRun0_A.sl.r_33 c arg1 harg1 arg2 harg2 arg3 harg3 arg4 harg4 arg5 harg5 arg9 arg10 arg11 x0 x1 x2 x3 x4) (kernelRun0_A.sl.r_34 c arg1 harg1 arg2 harg2 arg3 harg3 arg4 harg4 arg9 arg10 arg11 x0 x1 x2 x3) (ix2 r k)
    = hidden (conv (fun _ _ => 0) (upRow x0 x1 x2) x3 x4) r ⟨2048 + k.val, by omega⟩ := by
  unfold kernelRun0_A.sl.r_32 kernelRun0_A.sl.r_33 kernelRun0_A.sl.r_34
  unfold_payloads
  unfold hidden gated conv
  simp only [View.readAt_eq_ld, harg1.read_unread, harg2.read_unread, harg3.read_unread, harg4.read_unread, harg5.read_unread]
  pointwise
  simp only [A_h, A_v674, A_v680, A_v707, A_v713, upRow, Nat.zero_add, ← Nat.add_assoc, Nat.reduceAdd]

theorem A_hid7 (r : Fin 1024) (k : Fin 256) : k0_pay95 (kernelRun0_A.sl.r_30 c arg1 harg1 arg2 harg2 arg3 harg3 arg4 harg4 arg5 harg5 arg9 arg10 arg11 x0 x1 x2 x3 x4) (kernelRun0_A.sl.r_31 c arg1 harg1 arg2 harg2 arg3 harg3 arg9 x0 x1 x2) (View.readAt (Elt Ideal) arg5.view (Rect.unit (s := S1x5632) ![0, 1792] S1x256.size inb_S1x5632_S1x256_0_1792).toLoadRect (harg5.unread x4)) (View.readAt (Elt Ideal) arg4.view (Rect.unit (s := S3x5632) ![2, 1792] S1x256.size inb_S3x5632_S1x256_2_1792).toLoadRect (harg4.unread x3)) (kernelRun0_A.sl.v628 c arg1 harg1 arg2 harg2 arg3 harg3 arg9 arg10 arg11 x0 x1 x2) (View.readAt (Elt Ideal) arg4.view (Rect.unit (s := S3x5632) ![0, 1792] S1x256.size inb_S3x5632_S1x256_0_1792).toLoadRect (harg4.unread x3)) (kernelRun0_A.sl.v634 c arg1 harg1 arg2 harg2 arg3 harg3 arg9 arg10 arg11 x0 x1 x2) (View.readAt (Elt Ideal) arg4.view (Rect.unit (s := S3x5632) ![1, 1792] S1x256.size inb_S3x5632_S1x256_1_1792).toLoadRect (harg4.unread x3)) (ix2 r k)
    = hidden (conv (fun _ _ => 0) (upRow x0 x1 x2) x3 x4) r ⟨1792 + k.val, by omega⟩ := by
  unfold kernelRun0_A.sl.r_30 kernelRun0_A.sl.r_31 kernelRun0_A.sl.r_29
  unfold_payloads
  unfold hidden gated conv
  simp only [View.readAt_eq_ld, harg1.read_unread, harg2.read_unread, harg3.read_unread, harg4.read_unread, harg5.read_unread]
  pointwise
  simp only [A_v628, A_v634, A_v595, A_v601, A_h, upRow, Nat.zero_add, ← Nat.add_assoc, Nat.reduceAdd]

theorem A_hid6 (r : Fin 1024) (k : Fin 256) : k0_pay85 (kernelRun0_A.sl.r_26 c arg1 harg1 arg2 harg2 arg3 harg3 arg4 harg4 arg5 harg5 arg9 arg10 arg11 x0 x1 x2 x3 x4) (kernelRun0_A.sl.r_27 c arg1 harg1 arg2 harg2 arg3 harg3 arg4 harg4 arg5 harg5 arg9 x0 x1 x2 x3 x4) (kernelRun0_A.sl.r_28 c arg1 harg1 arg2 harg2 arg3 harg3 arg4 harg4 arg9 arg10 arg11 x0 x1 x2 x3) (kernelRun0_A.sl.v555 c arg1 harg1 arg2 harg2 arg3 harg3 arg9 arg10 arg11 x0 x1 x2) (View.readAt (Elt Ideal) arg4.view (Rect.unit (s := S3x5632) ![1, 1536] S1x256.size inb_S3x5632_S1x256_1_1536).toLoadRect (harg4.unread x3)) (ix2 r k)
    = hidden (conv (fun _ _ => 0) (upRow x0 x1 x2) x3 x4) r ⟨1536 + k.val, by omega⟩ := by
  unfold kernelRun0_A.sl.r_26 kernelRun0_A.sl.r_27 kernelRun0_A.sl.r_28 kernelRun0_A.sl.r_25
  unfold_payloads
  unfold hidden gated conv
  simp only [View.readAt_eq_ld, harg1.read_unread, harg2.read_unread, harg3.read_unread, harg4.read_unread, harg5.read_unread]
  pointwise
  simp only [A_v555, A_v522, A_h, A_v549, A_v516, upRow, Nat.zero_add, ← Nat.add_assoc, Nat.reduceAdd]

theorem A_hid5 (r : Fin 1024) (k : Fin 256) : k0_pay72 (kernelRun0_A.sl.r_24 c arg1 harg1 arg2 harg2 arg3 harg3 arg4 harg4 arg5 harg5 arg9 arg10 arg11 x0 x1 x2 x3 x4) (ix2 r k)
    = hidden (conv (fun _ _ => 0) (upRow x0 x1 x2) x3 x4) r ⟨1280 + k.val, by omega⟩ := by
  unfold kernelRun0_A.sl.r_24 kernelRun0_A.sl.r_22 kernelRun0_A.sl.r_23 kernelRun0_A.sl.r_21
  unfold_payloads
  unfold hidden gated conv
  simp only [View.readAt_eq_ld, harg1.read_unread, harg2.read_unread, harg3.read_unread, harg4.read_unread, harg5.read_unread]
  pointwise
  simp only [A_v470, A_v476, A_v437, A_v443, A_h, upRow, Nat.zero_add, ← Nat.add_assoc, Nat.reduceAdd]

theorem A_hid4 (r : Fin 1024) (k : Fin 256) : k0_pay61 (kernelRun0_A.sl.r_18 c arg1 harg1 arg2 harg2 arg3 harg3 arg4 harg4 arg5 harg5 arg9 arg10 arg11 x0 x1 x2 x3 x4) (kernelRun0_A.sl.r_19 c arg1 harg1 arg2 harg2 arg3 harg3 arg4 harg4 arg9 x0 x1 x2 x3) (kernelRun0_A.sl.r_20 c arg5 harg5 x4) (kernelRun0_A.sl.v391 c arg1 harg1 arg2 harg2 arg3 harg3 arg9 arg10 arg11 x0 x1 x2) (View.readAt (Elt Ideal) arg4.view (Rect.unit (s := S3x5632) ![0, 1024] S1x256.size inb_S3x5632_S1x256_0_1024).toLoadRect (harg4.unread x3)) (kernelRun0_A.sl.v397 c arg1 harg1 arg2 harg2 arg3 harg3 arg9 arg10 arg11 x0 x1 x2) (View.readAt (Elt Ideal) arg4.view (Rect.unit (s := S3x5632) ![1, 1024] S1x256.size inb_S3x5632_S1x256_1_1024).toLoadRect (harg4.unread x3)) (ix2 r k)
    = hidden (conv (fun _ _ => 0) (upRow x0 x1 x2) x3 x4) r ⟨1024 + k.val, by omega⟩ := by
  unfold kernelRun0_A.sl.r_18 kernelRun0_A.sl.r_19 kernelRun0_A.sl.r_20 kernelRun0_A.sl.r_17
  unfold_payloads
  unfold hidden gated conv
  simp only [View.readAt_eq_ld, harg1.read_unread, harg2.read_unread, harg3.read_unread, harg4.read_unread, harg5.read_unread]
  pointwise
  simp only [A_v391, A_v397, A_v358, A_v364, A_h, upRow, Nat.zero_add, ← Nat.add_assoc, Nat.reduceAdd]

theorem A_hid3 (r : Fin 1024) (k : Fin 256) : k0_pay48 (kernelRun0_A.sl.r_13 c arg1 harg1 arg2 harg2 arg3 harg3 arg4 harg4 arg5 harg5 arg9 arg10 arg11 x0 x1 x2 x3 x4) (kernelRun0_A.sl.r_15 c arg1 harg1 arg2 harg2 arg3 harg3 arg4 harg4 arg5 harg5 arg9 arg10 arg11 x0 x1 x2 x3 x4) (kernelRun0_A.sl.r_16 c arg1 harg1 arg2 harg2 arg3 harg3 arg4 harg4 arg5 harg5 arg9 arg10 arg11 x0 x1 x2 x3 x4) kernelRun0_A.sl.cst_227 (ix2 r k)
    = hidden (conv (fun _ _ => 0) (upRow x0 x1 x2) x3 x4) r ⟨768 + k.val, by omega⟩ := by
  unfold kernelRun0_A.sl.r_13 kernelRun0_A.sl.r_15 kernelRun0_A.sl.r_16 kernelRun0_A.sl.cst_227 kernelRun0_A.sl.r_12 kernelRun0_A.sl.r_14 kernelRun0_A.sl.cst_203
  unfold_payloads
  unfold hidden gated conv
  simp only [View.readAt_eq_ld, harg1.read_unread, harg2.read_unread, harg3.read_unread, harg4.read_unread, harg5.read_unread]
  pointwise
  simp only [A_v279, A_v285, A_h, A_v312, A_v318, upRow, Nat.zero_add, ← Nat.add_assoc, Nat.reduceAdd]

theorem A_hid2 (r : Fin 1024) (k : Fin 256) : k0_pay36 (kernelRun0_A.sl.r_10 c arg1 harg1 arg2 harg2 arg3 harg3 arg4 harg4 arg5 harg5 arg9 arg10 arg11 x0 x1 x2 x3 x4) (kernelRun0_A.sl.r_11 c arg1 harg1 arg2 harg2 arg3 harg3 arg9 x0 x1 x2) (View.readAt (Elt Ideal) arg5.view (Rect.unit (s := S1x5632) ![0, 512] S1x256.size inb_S1x5632_S1x256_0_512).toLoadRect (harg5.unread x4)) (View.readAt (Elt Ideal) arg4.view (Rect.unit (s := S3x5632) ![2, 512] S1x256.size inb_S3x5632_S1x256_2_512).toLoadRect (harg4.unread x3)) (kernelRun0_A.sl.v233 c arg1 harg1 arg2 harg2 arg3 harg3 arg9 arg10 arg11 x0 x1 x2) (View.readAt (Elt Ideal) arg4.view (Rect.unit (s := S3x5632) ![0, 512] S1x256.size inb_S3x5632_S1x256_0_512).toLoadRect (harg4.unread x3)) (kernelRun0_A.sl.v239 c arg1 harg1 arg2 harg2 arg3 harg3 arg9 arg10 arg11 x0 x1 x2) (View.readAt (Elt Ideal) arg4.view (Rect.unit (s := S3x5632) ![1, 512] S1x256.size inb_S3x5632_S1x256_1_512).toLoadRect (harg4.unread x3)) (ix2 r k)
    = hidden (conv (fun _ _ => 0) (upRow x0 x1 x2) x3 x4) r ⟨512 + k.val, by omega⟩ := by
  unfold kernelRun0_A.sl.r_10 kernelRun0_A.sl.r_11 kernelRun0_A.sl.r_8 kernelRun0_A.sl.r_9
  unfold_payloads
  unfold hidden gated conv
  simp only [View.readAt_eq_ld, harg1.read_unread, harg2.read_unread, harg3.read_unread, harg4.read_unread, harg5.read_unread]
  pointwise
  simp only [A_v233, A_v239, A_v200, A_v206, A_h, upRow, Nat.zero_add, ← Nat.add_assoc, Nat.reduceAdd]

theorem A_hid1 (r : Fin 1024) (k : Fin 256) : k0_pay26 (kernelRun0_A.sl.r_6 c arg1 harg1 arg2 harg2 arg3 harg3 arg4 harg4 arg5 harg5 arg9 arg10 arg11 x0 x1 x2 x3 x4) (kernelRun0_A.sl.r_7 c arg1 harg1 arg2 harg2 arg3 harg3 arg4 harg4 arg5 harg5 arg9 arg10 arg11 x0 x1 x2 x3 x4) (kernelRun0_A.sl.v160 c arg1 harg1 arg2 harg2 arg3 harg3 arg9 arg10 arg11 x0 x1 x2) (View.readAt (Elt Ideal) arg4.view (Rect.unit (s := S3x5632) ![1, 256] S1x256.size inb_S3x5632_S1x256_1_256).toLoadRect (harg4.unread x3)) (ix2 r k)
    = hidden (conv (fun _ _ => 0) (upRow x0 x1 x2) x3 x4) r ⟨256 + k.val, by omega⟩ := by
  unfold kernelRun0_A.sl.r_6 kernelRun0_A.sl.r_7 kernelRun0_A.sl.r_4 kernelRun0_A.sl.r_5
  unfold_payloads
  unfold hidden gated conv
  simp only [View.readAt_eq_ld, harg1.read_unread, harg2.read_unread, harg3.read_unread, harg4.read_unread, harg5.read_unread]
  pointwise
  simp only [A_v160, A_v127, A_h, A_v154, A_v121, upRow, Nat.zero_add, ← Nat.add_assoc, Nat.reduceAdd]

theorem A_hid0 (r : Fin 1024) (k : Fin 256) : k0_pay13 (kernelRun0_A.sl.r_1 c arg1 harg1 arg2 harg2 arg3 harg3 arg4 harg4 arg5 harg5 arg9 arg10 arg11 x0 x1 x2 x3 x4) (kernelRun0_A.sl.r_2 c arg1 harg1 arg2 harg2 arg3 harg3 arg9 x0 x1 x2) (View.readAt (Elt Ideal) arg5.view (Rect.unit (s := S1x5632) ![0, 0] S1x256.size inb_S1x5632_S1x256_0_0).toLoadRect (harg5.unread x4)) (View.readAt (Elt Ideal) arg4.view (Rect.unit (s := S3x5632) ![2, 0] S1x256.size inb_S3x5632_S1x256_2_0).toLoadRect (harg4.unread x3)) (kernelRun0_A.sl.v75 c arg1 harg1 arg2 harg2 arg3 harg3 arg9 arg10 arg11 x0 x1 x2) (View.readAt (Elt Ideal) arg4.view (Rect.unit (s := S3x5632) ![0, 0] S1x256.size inb_S3x5632_S1x256_0_0).toLoadRect (harg4.unread x3)) (kernelRun0_A.sl.v81 c arg1 harg1 arg2 harg2 arg3 harg3 arg9 arg10 arg11 x0 x1 x2) (View.readAt (Elt Ideal) arg4.view (Rect.unit (s := S3x5632) ![1, 0] S1x256.size inb_S3x5632_S1x256_1_0).toLoadRect (harg4.unread x3)) (ix2 r k)
    = hidden (conv (fun _ _ => 0) (upRow x0 x1 x2) x3 x4) r ⟨0 + k.val, by omega⟩ := by
  unfold kernelRun0_A.sl.r_1 kernelRun0_A.sl.r_2 kernelRun0_A.sl.r
  unfold_payloads
  unfold hidden gated conv
  simp only [View.readAt_eq_ld, harg1.read_unread, harg2.read_unread, harg3.read_unread, harg4.read_unread, harg5.read_unread]
  pointwise
  simp only [A_v75, A_v81, A_v42, A_v48, A_h, upRow, Nat.zero_add, ← Nat.add_assoc, Nat.reduceAdd]

end Cert.Ffn

end
-- ==== Proof.FfnOutA.lean ====
module

public import proofs.«01_k».proof.Proof.FfnHiddenA

@[expose] public section

set_option maxRecDepth 16384

noncomputable section

namespace Cert.Ffn

open Idealize.ShloMosaic Idealize.ShloMosaic.Tactic Cert.KernelIdeal Cert.KernelIdeal.Gen

variable (c : Dev nD) (i : grid0.Coords)
  (arg1 : Memref sig .tc .vmem S1024x1024 .f32) (harg1 : arg1.IsWhole) (arg2 : Memref sig .tc .vmem S1x1024 .f32) (harg2 : arg2.IsWhole)
  (arg3 : Memref sig .tc .vmem S1024x5632 .bf16) (harg3 : arg3.IsWhole) (arg4 : Memref sig .tc .vmem S3x5632 .f32) (harg4 : arg4.IsWhole)
  (arg5 : Memref sig .tc .vmem S1x5632 .f32) (harg5 : arg5.IsWhole) (arg6 : Memref sig .tc .vmem S2816x1024 .bf16) (harg6 : arg6.IsWhole)
  (arg7 : Memref sig .tc .vmem S1x1024 .f32) (harg7 : arg7.IsWhole) (arg8 : Memref sig .tc .vmem S1024x1024 .f32) (harg8 : arg8.IsWhole)
  (arg9 : Memref sig .tc .vmem S1024x1024 .bf16) (harg9 : arg9.IsWhole) (arg10 : Memref sig .tc .vmem S1032x256 .f32) (harg10 : arg10.IsWhole)
  (arg11 : Memref sig .tc .vmem S8x5632 .f32) (harg11 : arg11.IsWhole) (arg12 : Memref sig .tc .vmem S1024x2816 .bf16) (harg12 : arg12.IsWhole)
  (x0 : Vec Ideal S1024x1024 .f32) (x1 : Vec Ideal S1x1024 .f32) (x2 : Vec Ideal S1024x5632 .bf16) (x3 : Vec Ideal S3x5632 .f32)
  (x4 : Vec Ideal S1x5632 .f32) (x5 : Vec Ideal S2816x1024 .bf16) (x6 : Vec Ideal S1x1024 .f32) (xs2 : Vec Ideal S8x5632 .f32)

theorem A_pieces : View.PiecesOf (Val := Elt Ideal) (e := .bf16) (fun y : S1024x2816.Idx => hidden (conv (fun _ _ => 0) (upRow x0 x1 x2) x3 x4) (y 0) (y 1))
    (kernelRun0_A.sl.HS3_11 (F := Ideal) c arg1 harg1 arg2 harg2 arg3 harg3 arg4 harg4 arg5 harg5 arg9 arg10 arg11 x0 x1 x2 x3 x4) := by
  unfold kernelRun0_A.sl.HS3_11
  refine ⟨?_, ?_, ?_, ?_, ?_, ?_, ?_, ?_, ?_, ?_, ?_, trivial⟩
  · refine piece_of (Val := Elt Ideal) (e := .bf16) (R := 1024) (C := 2816) (n := 1024) (m := 256) (o1 := 0) (o2 := 2560) (hidden (conv (fun _ _ => 0) (upRow x0 x1 x2) x3 x4)) inb_S1024x2816_S1024x256_0_2560 _ fun r k hr hk => (A_hid10 ..).trans ?_
    simp only [Nat.zero_add]
  · refine piece_of (Val := Elt Ideal) (e := .bf16) (R := 1024) (C := 2816) (n := 1024) (m := 256) (o1 := 0) (o2 := 2304) (hidden (conv (fun _ _ => 0) (upRow x0 x1 x2) x3 x4)) inb_S1024x2816_S1024x256_0_2304 _ fun r k hr hk => (A_hid9 ..).trans ?_
    simp only [Nat.zero_add]
  · refine piece_of (Val := Elt Ideal) (e := .bf16) (R := 1024) (C := 2816) (n := 1024) (m := 256) (o1 := 0) (o2 := 2048) (hidden (conv (fun _ _ => 0) (upRow x0 x1 x2) x3 x4)) inb_S1024x2816_S1024x256_0_2048 _ fun r k hr hk => (A_hid8 ..).trans ?_
    simp only [Nat.zero_add]
  · refine piece_of (Val := Elt Ideal) (e := .bf16) (R := 1024) (C := 2816) (n := 1024) (m := 256) (o1 := 0) (o2 := 1792) (hidden (conv (fun _ _ => 0) (upRow x0 x1 x2) x3 x4)) inb_S1024x2816_S1024x256_0_1792 _ fun r k hr hk => (A_hid7 ..).trans ?_
    simp only [Nat.zero_add]
  · refine piece_of (Val := Elt Ideal) (e := .bf16) (R := 1024) (C := 2816) (n := 1024) (m := 256) (o1 := 0) (o2 := 1536) (hidden (conv (fun _ _ => 0) (upRow x0 x1 x2) x3 x4)) inb_S1024x2816_S1024x256_0_1536 _ fun r k hr hk => (A_hid6 ..).trans ?_
    simp only [Nat.zero_add]
  · refine piece_of (Val := Elt Ideal) (e := .bf16) (R := 1024) (C := 2816) (n := 1024) (m := 256) (o1 := 0) (o2 := 1280) (hidden (conv (fun _ _ => 0) (upRow x0 x1 x2) x3 x4)) inb_S1024x2816_S1024x256_0_1280 _ fun r k hr hk => (A_hid5 ..).trans ?_
    simp only [Nat.zero_add]
  · refine piece_of (Val := Elt Ideal) (e := .bf16) (R := 1024) (C := 2816) (n := 1024) (m := 256) (o1 := 0) (o2 := 1024) (hidden (conv (fun _ _ => 0) (upRow x0 x1 x2) x3 x4)) inb_S1024x2816_S1024x256_0_1024 _ fun r k hr hk => (A_hid4 ..).trans ?_
    simp only [Nat.zero_add]
  · refine piece_of (Val := Elt Ideal) (e := .bf16) (R := 1024) (C := 2816) (n := 1024) (m := 256) (o1 := 0) (o2 := 768) (hidden (conv (fun _ _ => 0) (upRow x0 x1 x2) x3 x4)) inb_S1024x2816_S1024x256_0_768 _ fun r k hr hk => (A_hid3 ..).trans ?_
    simp only [Nat.zero_add]
  · refine piece_of (Val := Elt Ideal) (e := .bf16) (R := 1024) (C := 2816) (n := 1024) (m := 256) (o1 := 0) (o2 := 512) (hidden (conv (fun _ _ => 0) (upRow x0 x1 x2) x3 x4)) inb_S1024x2816_S1024x256_0_512 _ fun r k hr hk => (A_hid2 ..).trans ?_
    simp only [Nat.zero_add]
  · refine piece_of (Val := Elt Ideal) (e := .bf16) (R := 1024) (C := 2816) (n := 1024) (m := 256) (o1 := 0) (o2 := 256) (hidden (conv (fun _ _ => 0) (upRow x0 x1 x2) x3 x4)) inb_S1024x2816_S1024x256_0_256 _ fun r k hr hk => (A_hid1 ..).trans ?_
    simp only [Nat.zero_add]
  · refine piece_of (Val := Elt Ideal) (e := .bf16) (R := 1024) (C := 2816) (n := 1024) (m := 256) (o1 := 0) (o2 := 0) (hidden (conv (fun _ _ => 0) (upRow x0 x1 x2) x3 x4)) inb_S1024x2816_S1024x256_0_0 _ fun r k hr hk => (A_hid0 ..).trans ?_
    simp only [Nat.zero_add]

theorem A_cover (y : S1024x2816.Idx) : ∃ p ∈ kernelRun0_A.sl.HS3_11 (F := Ideal) c arg1 harg1 arg2 harg2 arg3 harg3 arg4 harg4 arg5 harg5 arg9 arg10 arg11 x0 x1 x2 x3 x4, y ∈ p.1.set :=
  View.cover_of_tiledL (s := S1024x2816) (kernelRun0_A.sl.HS3_11 (F := Ideal) c arg1 harg1 arg2 harg2 arg3 harg3 arg4 harg4 arg5 harg5 arg9 arg10 arg11 x0 x1 x2 x3 x4) S1024x256.size (by sl_kernel_rfl) y

theorem A_v891 (r : Fin 256) (j : Fin 2816) : kernelRun0_A.sl.v891 (F := Ideal) c arg1 harg1 arg2 harg2 arg3 harg3 arg4 harg4 arg5 harg5 arg9 arg10 arg11 arg12 x0 x1 x2 x3 x4 (ix2 r j)
    = hidden (conv (fun _ _ => 0) (upRow x0 x1 x2) x3 x4) ⟨0 + r.val, by omega⟩ j := by
  unfold kernelRun0_A.sl.v891
  exact read_mat (Val := Elt Ideal) (e := .bf16) (R := 1024) (C := 2816) (n := 256) (q := 0) _ (hidden (conv (fun _ _ => 0) (upRow x0 x1 x2) x3 x4)) _ (A_pieces ..)
    (fun y => A_cover (y := y) ..) _ r j (by omega)

theorem A_v911 (r : Fin 256) (j : Fin 2816) : kernelRun0_A.sl.v911 (F := Ideal) c arg1 harg1 arg2 harg2 arg3 harg3 arg4 harg4 arg5 harg5 arg9 arg10 arg11 arg12 x0 x1 x2 x3 x4 (ix2 r j)
    = hidden (conv (fun _ _ => 0) (upRow x0 x1 x2) x3 x4) ⟨256 + r.val, by omega⟩ j := by
  unfold kernelRun0_A.sl.v911
  exact read_mat (Val := Elt Ideal) (e := .bf16) (R := 1024) (C := 2816) (n := 256) (q := 256) _ (hidden (conv (fun _ _ => 0) (upRow x0 x1 x2) x3 x4)) _ (A_pieces ..)
    (fun y => A_cover (y := y) ..) _ r j (by omega)

theorem A_v931 (r : Fin 256) (j : Fin 2816) : kernelRun0_A.sl.v931 (F := Ideal) c arg1 harg1 arg2 harg2 arg3 harg3 arg4 harg4 arg5 harg5 arg9 arg10 arg11 arg12 x0 x1 x2 x3 x4 (ix2 r j)
    = hidden (conv (fun _ _ => 0) (upRow x0 x1 x2) x3 x4) ⟨512 + r.val, by omega⟩ j := by
  unfold kernelRun0_A.sl.v931
  exact read_mat (Val := Elt Ideal) (e := .bf16) (R := 1024) (C := 2816) (n := 256) (q := 512) _ (hidden (conv (fun _ _ => 0) (upRow x0 x1 x2) x3 x4)) _ (A_pieces ..)
    (fun y => A_cover (y := y) ..) _ r j (by omega)

theorem A_v951 (r : Fin 256) (j : Fin 2816) : kernelRun0_A.sl.v951 (F := Ideal) c arg1 harg1 arg2 harg2 arg3 harg3 arg4 harg4 arg5 harg5 arg9 arg10 arg11 arg12 x0 x1 x2 x3 x4 (ix2 r j)
    = hidden (conv (fun _ _ => 0) (upRow x0 x1 x2) x3 x4) ⟨768 + r.val, by omega⟩ j := by
  unfold kernelRun0_A.sl.v951
  exact read_mat (Val := Elt Ideal) (e := .bf16) (R := 1024) (C := 2816) (n := 256) (q := 768) _ (hidden (conv (fun _ _ => 0) (upRow x0 x1 x2) x3 x4)) _ (A_pieces ..)
    (fun y => A_cover (y := y) ..) _ r j (by omega)

theorem A_out768 (r : Fin 256) (k : Fin 1024) : k0_pay1 (kernelRun0_A.sl.r_48 c arg1 harg1 x0) (kernelRun0_A.sl.v951 c arg1 harg1 arg2 harg2 arg3 harg3 arg4 harg4 arg5 harg5 arg9 arg10 arg11 arg12 x0 x1 x2 x3 x4) (View.readAt (Elt Ideal) arg6.view (Rect.unit (s := S2816x1024) ![0, 0] ![2816, 1024] inb_S2816x1024_S2816x1024_0_0).toLoadRect (harg6.unread x5)) (View.readAt (Elt Ideal) arg7.view (Rect.unit (s := S1x1024) ![0, 0] ![1, 1024] inb_S1x1024_S1x1024_0_0).toLoadRect (harg7.unread x6)) (ix2 r k)
    = ffnOut (fun _ _ => 0) x0 x1 x2 x3 x4 x5 x6 ⟨768 + r.val, by omega⟩ k := by
  unfold kernelRun0_A.sl.r_48
  unfold_payloads
  unfold ffnOut outRow rms
  simp only [View.readAt_eq_ld, harg1.read_unread, harg6.read_unread, harg7.read_unread]
  pointwise
  simp only [A_v951, Nat.zero_add]

theorem A_out512 (r : Fin 256) (k : Fin 1024) : k0_pay136 (View.readAt (Elt Ideal) arg1.view (Rect.unit (s := S1024x1024) ![512, 0] S256x1024.size inb_S1024x1024_S256x1024_512_0).toLoadRect (harg1.unread x0)) (kernelRun0_A.sl.v931 c arg1 harg1 arg2 harg2 arg3 harg3 arg4 harg4 arg5 harg5 arg9 arg10 arg11 arg12 x0 x1 x2 x3 x4) (View.readAt (Elt Ideal) arg6.view (Rect.unit (s := S2816x1024) ![0, 0] S2816x1024.size inb_S2816x1024_S2816x1024_0_0).toLoadRect (harg6.unread x5)) (View.readAt (Elt Ideal) arg7.view (Rect.unit (s := S1x1024) ![0, 0] S1x1024.size inb_S1x1024_S1x1024_0_0).toLoadRect (harg7.unread x6)) (ix2 r k)
    = ffnOut (fun _ _ => 0) x0 x1 x2 x3 x4 x5 x6 ⟨512 + r.val, by omega⟩ k := by
  skip
  unfold_payloads
  unfold ffnOut outRow rms
  simp only [View.readAt_eq_ld, harg1.read_unread, harg6.read_unread, harg7.read_unread]
  pointwise
  simp only [A_v931, Nat.zero_add]

theorem A_out256 (r : Fin 256) (k : Fin 1024) : k0_pay135 (kernelRun0_A.sl.r_46 c arg1 harg1 arg2 harg2 arg3 harg3 arg4 harg4 arg5 harg5 arg6 harg6 arg9 arg10 arg11 arg12 x0 x1 x2 x3 x4 x5) (kernelRun0_A.sl.r_47 c arg7 harg7 x6) (ix2 r k)
    = ffnOut (fun _ _ => 0) x0 x1 x2 x3 x4 x5 x6 ⟨256 + r.val, by omega⟩ k := by
  unfold kernelRun0_A.sl.r_46 kernelRun0_A.sl.r_47
  unfold_payloads
  unfold ffnOut outRow rms
  simp only [View.readAt_eq_ld, harg1.read_unread, harg6.read_unread, harg7.read_unread]
  pointwise
  simp only [A_v911, Nat.zero_add]

theorem A_out0 (r : Fin 256) (k : Fin 1024) : k0_pay133 (View.readAt (Elt Ideal) arg1.view (Rect.unit (s := S1024x1024) ![0, 0] S256x1024.size inb_S1024x1024_S256x1024_0_0).toLoadRect (harg1.unread x0)) (kernelRun0_A.sl.v891 c arg1 harg1 arg2 harg2 arg3 harg3 arg4 harg4 arg5 harg5 arg9 arg10 arg11 arg12 x0 x1 x2 x3 x4) (View.readAt (Elt Ideal) arg6.view (Rect.unit (s := S2816x1024) ![0, 0] S2816x1024.size inb_S2816x1024_S2816x1024_0_0).toLoadRect (harg6.unread x5)) (View.readAt (Elt Ideal) arg7.view (Rect.unit (s := S1x1024) ![0, 0] S1x1024.size inb_S1x1024_S1x1024_0_0).toLoadRect (harg7.unread x6)) (ix2 r k)
    = ffnOut (fun _ _ => 0) x0 x1 x2 x3 x4 x5 x6 ⟨0 + r.val, by omega⟩ k := by
  skip
  unfold_payloads
  unfold ffnOut outRow rms
  simp only [View.readAt_eq_ld, harg1.read_unread, harg6.read_unread, harg7.read_unread]
  pointwise
  simp only [A_v891, Nat.zero_add]

/-- What the call leaves in the result's block at the first point. -/
theorem A_out (hc0 : cond0_0 i) (r k : Fin 1024) : out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r k)
    = ffnOut (fun _ _ => 0) x0 x1 x2 x3 x4 x5 x6 r k := by
  unfold out0_A_7
  have hp : View.PiecesOf (Val := Elt Ideal) (e := .f32) (fun y : S1024x1024.Idx => ffnOut (fun _ _ => 0) x0 x1 x2 x3 x4 x5 x6 (y 0) (y 1))
      (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 := ?_
  · exact View.read_writes_apply_of_pieces (Val := Elt Ideal) (e := .f32) _ _
      (fun y : S1024x1024.Idx => ffnOut (fun _ _ => 0) x0 x1 x2 x3 x4 x5 x6 (y 0) (y 1)) _ hp.mem _ (cover0_A_7 ..)
  unfold kernelRun0_A
  dsimp only
  refine ⟨?_, ?_, ?_, ?_, trivial⟩
  · exact piece_of (Val := Elt Ideal) (e := .f32) (R := 1024) (C := 1024) (n := 256) (m := 1024) (o1 := 768) (o2 := 0) (ffnOut (fun _ _ => 0) x0 x1 x2 x3 x4 x5 x6) inb_S1024x1024_S256x1024_768_0 _ fun r k hr hk =>
      (A_out768 ..).trans (by simp only [Nat.zero_add])
  · exact piece_of (Val := Elt Ideal) (e := .f32) (R := 1024) (C := 1024) (n := 256) (m := 1024) (o1 := 512) (o2 := 0) (ffnOut (fun _ _ => 0) x0 x1 x2 x3 x4 x5 x6) inb_S1024x1024_S256x1024_512_0 _ fun r k hr hk =>
      (A_out512 ..).trans (by simp only [Nat.zero_add])
  · exact piece_of (Val := Elt Ideal) (e := .f32) (R := 1024) (C := 1024) (n := 256) (m := 1024) (o1 := 256) (o2 := 0) (ffnOut (fun _ _ => 0) x0 x1 x2 x3 x4 x5 x6) inb_S1024x1024_S256x1024_256_0 _ fun r k hr hk =>
      (A_out256 ..).trans (by simp only [Nat.zero_add])
  · exact piece_of (Val := Elt Ideal) (e := .f32) (R := 1024) (C := 1024) (n := 256) (m := 1024) (o1 := 0) (o2 := 0) (ffnOut (fun _ _ => 0) x0 x1 x2 x3 x4 x5 x6) inb_S1024x1024_S256x1024_0_0 _ fun r k hr hk =>
      (A_out0 ..).trans (by simp only [Nat.zero_add])

/-- What the call leaves in the carried rows at the first point: the tile's last eight rows, up-projected. -/
theorem A_tail (hc0 : cond0_0 i) (r : Fin 8) (j : Fin 5632) : sout0_A_2 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r j)
    = upRow x0 x1 x2 ⟨1024 + r.val - 8, by omega⟩ j := by
  unfold sout0_A_2
  rw [View.read_writes_junk_apply_eq_canon]
  refine canon_take (Val := Elt Ideal) (e := .f32) (fun y : S8x5632.Idx => (fun (r : Fin 8) j => upRow x0 x1 x2 ⟨1024 + r.val - 8, by omega⟩ j) (y 0) (y 1)) _ 22 _ ?_ ?_
  · unfold kernelRun0_A
    dsimp only
    unfold kernelRun0_A.sl.HS2_22 kernelRun0_A.sl.HS2_21 kernelRun0_A.sl.HS2_20 kernelRun0_A.sl.HS2_19 kernelRun0_A.sl.HS2_18 kernelRun0_A.sl.HS2_17 kernelRun0_A.sl.HS2_16 kernelRun0_A.sl.HS2_15
    unfold kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7
    unfold kernelRun0_A.sl.HS2_6 kernelRun0_A.sl.HS2_5 kernelRun0_A.sl.HS2_4 kernelRun0_A.sl.HS2_3 kernelRun0_A.sl.HS2_2 kernelRun0_A.sl.HS2_1
    refine ⟨?_, ?_, ?_, ?_, ?_, ?_, ?_, ?_, ?_, ?_, ?_, ?_, ?_, ?_, ?_, ?_, ?_, ?_, ?_, ?_, ?_, ?_, trivial⟩
    · refine piece_of (Val := Elt Ideal) (e := .f32) (R := 8) (C := 5632) (n := 8) (m := 256) (o1 := 0) (o2 := 2560) (fun (r : Fin 8) j => upRow x0 x1 x2 ⟨1024 + r.val - 8, by omega⟩ j) inb_S8x5632_S8x256_0_2560 _ fun r k hr hk => ?_
      unfold_payloads
      pointwise
      simp only [A_v854, Nat.zero_add]
    · refine piece_of (Val := Elt Ideal) (e := .f32) (R := 8) (C := 5632) (n := 8) (m := 256) (o1 := 0) (o2 := 5376) (fun (r : Fin 8) j => upRow x0 x1 x2 ⟨1024 + r.val - 8, by omega⟩ j) inb_S8x5632_S8x256_0_5376 _ fun r k hr hk => ?_
      unfold_payloads
      pointwise
      simp only [A_v821, Nat.zero_add]
    · refine piece_of (Val := Elt Ideal) (e := .f32) (R := 8) (C := 5632) (n := 8) (m := 256) (o1 := 0) (o2 := 2304) (fun (r : Fin 8) j => upRow x0 x1 x2 ⟨1024 + r.val - 8, by omega⟩ j) inb_S8x5632_S8x256_0_2304 _ fun r k hr hk => ?_
      unfold_payloads
      pointwise
      simp only [A_v775, Nat.zero_add]
    · refine piece_of (Val := Elt Ideal) (e := .f32) (R := 8) (C := 5632) (n := 8) (m := 256) (o1 := 0) (o2 := 5120) (fun (r : Fin 8) j => upRow x0 x1 x2 ⟨1024 + r.val - 8, by omega⟩ j) inb_S8x5632_S8x256_0_5120 _ fun r k hr hk => ?_
      unfold_payloads
      pointwise
      simp only [A_v742, Nat.zero_add]
    · refine piece_of (Val := Elt Ideal) (e := .f32) (R := 8) (C := 5632) (n := 8) (m := 256) (o1 := 0) (o2 := 2048) (fun (r : Fin 8) j => upRow x0 x1 x2 ⟨1024 + r.val - 8, by omega⟩ j) inb_S8x5632_S8x256_0_2048 _ fun r k hr hk => ?_
      unfold_payloads
      pointwise
      simp only [A_v696, Nat.zero_add]
    · refine piece_of (Val := Elt Ideal) (e := .f32) (R := 8) (C := 5632) (n := 8) (m := 256) (o1 := 0) (o2 := 4864) (fun (r : Fin 8) j => upRow x0 x1 x2 ⟨1024 + r.val - 8, by omega⟩ j) inb_S8x5632_S8x256_0_4864 _ fun r k hr hk => ?_
      unfold_payloads
      pointwise
      simp only [A_v663, Nat.zero_add]
    · refine piece_of (Val := Elt Ideal) (e := .f32) (R := 8) (C := 5632) (n := 8) (m := 256) (o1 := 0) (o2 := 1792) (fun (r : Fin 8) j => upRow x0 x1 x2 ⟨1024 + r.val - 8, by omega⟩ j) inb_S8x5632_S8x256_0_1792 _ fun r k hr hk => ?_
      unfold_payloads
      pointwise
      simp only [A_v617, Nat.zero_add]
    · refine piece_of (Val := Elt Ideal) (e := .f32) (R := 8) (C := 5632) (n := 8) (m := 256) (o1 := 0) (o2 := 4608) (fun (r : Fin 8) j => upRow x0 x1 x2 ⟨1024 + r.val - 8, by omega⟩ j) inb_S8x5632_S8x256_0_4608 _ fun r k hr hk => ?_
      unfold_payloads
      pointwise
      simp only [A_v584, Nat.zero_add]
    · refine piece_of (Val := Elt Ideal) (e := .f32) (R := 8) (C := 5632) (n := 8) (m := 256) (o1 := 0) (o2 := 1536) (fun (r : Fin 8) j => upRow x0 x1 x2 ⟨1024 + r.val - 8, by omega⟩ j) inb_S8x5632_S8x256_0_1536 _ fun r k hr hk => ?_
      unfold_payloads
      pointwise
      simp only [A_v538, Nat.zero_add]
    · refine piece_of (Val := Elt Ideal) (e := .f32) (R := 8) (C := 5632) (n := 8) (m := 256) (o1 := 0) (o2 := 4352) (fun (r : Fin 8) j => upRow x0 x1 x2 ⟨1024 + r.val - 8, by omega⟩ j) inb_S8x5632_S8x256_0_4352 _ fun r k hr hk => ?_
      unfold_payloads
      pointwise
      simp only [A_v505, Nat.zero_add]
    · refine piece_of (Val := Elt Ideal) (e := .f32) (R := 8) (C := 5632) (n := 8) (m := 256) (o1 := 0) (o2 := 1280) (fun (r : Fin 8) j => upRow x0 x1 x2 ⟨1024 + r.val - 8, by omega⟩ j) inb_S8x5632_S8x256_0_1280 _ fun r k hr hk => ?_
      unfold_payloads
      pointwise
      simp only [A_v459, Nat.zero_add]
    · refine piece_of (Val := Elt Ideal) (e := .f32) (R := 8) (C := 5632) (n := 8) (m := 256) (o1 := 0) (o2 := 4096) (fun (r : Fin 8) j => upRow x0 x1 x2 ⟨1024 + r.val - 8, by omega⟩ j) inb_S8x5632_S8x256_0_4096 _ fun r k hr hk => ?_
      unfold_payloads
      pointwise
      simp only [A_v426, Nat.zero_add]
    · refine piece_of (Val := Elt Ideal) (e := .f32) (R := 8) (C := 5632) (n := 8) (m := 256) (o1 := 0) (o2 := 1024) (fun (r : Fin 8) j => upRow x0 x1 x2 ⟨1024 + r.val - 8, by omega⟩ j) inb_S8x5632_S8x256_0_1024 _ fun r k hr hk => ?_
      unfold_payloads
      pointwise
      simp only [A_v380, Nat.zero_add]
    · refine piece_of (Val := Elt Ideal) (e := .f32) (R := 8) (C := 5632) (n := 8) (m := 256) (o1 := 0) (o2 := 3840) (fun (r : Fin 8) j => upRow x0 x1 x2 ⟨1024 + r.val - 8, by omega⟩ j) inb_S8x5632_S8x256_0_3840 _ fun r k hr hk => ?_
      unfold_payloads
      pointwise
      simp only [A_v347, Nat.zero_add]
    · refine piece_of (Val := Elt Ideal) (e := .f32) (R := 8) (C := 5632) (n := 8) (m := 256) (o1 := 0) (o2 := 768) (fun (r : Fin 8) j => upRow x0 x1 x2 ⟨1024 + r.val - 8, by omega⟩ j) inb_S8x5632_S8x256_0_768 _ fun r k hr hk => ?_
      unfold_payloads
      pointwise
      simp only [A_v301, Nat.zero_add]
    · refine piece_of (Val := Elt Ideal) (e := .f32) (R := 8) (C := 5632) (n := 8) (m := 256) (o1 := 0) (o2 := 3584) (fun (r : Fin 8) j => upRow x0 x1 x2 ⟨1024 + r.val - 8, by omega⟩ j) inb_S8x5632_S8x256_0_3584 _ fun r k hr hk => ?_
      unfold_payloads
      pointwise
      simp only [A_v268, Nat.zero_add]
    · refine piece_of (Val := Elt Ideal) (e := .f32) (R := 8) (C := 5632) (n := 8) (m := 256) (o1 := 0) (o2 := 512) (fun (r : Fin 8) j => upRow x0 x1 x2 ⟨1024 + r.val - 8, by omega⟩ j) inb_S8x5632_S8x256_0_512 _ fun r k hr hk => ?_
      unfold_payloads
      pointwise
      simp only [A_v222, Nat.zero_add]
    · refine piece_of (Val := Elt Ideal) (e := .f32) (R := 8) (C := 5632) (n := 8) (m := 256) (o1 := 0) (o2 := 3328) (fun (r : Fin 8) j => upRow x0 x1 x2 ⟨1024 + r.val - 8, by omega⟩ j) inb_S8x5632_S8x256_0_3328 _ fun r k hr hk => ?_
      unfold_payloads
      pointwise
      simp only [A_v189, Nat.zero_add]
    · refine piece_of (Val := Elt Ideal) (e := .f32) (R := 8) (C := 5632) (n := 8) (m := 256) (o1 := 0) (o2 := 256) (fun (r : Fin 8) j => upRow x0 x1 x2 ⟨1024 + r.val - 8, by omega⟩ j) inb_S8x5632_S8x256_0_256 _ fun r k hr hk => ?_
      unfold_payloads
      pointwise
      simp only [A_v143, Nat.zero_add]
    · refine piece_of (Val := Elt Ideal) (e := .f32) (R := 8) (C := 5632) (n := 8) (m := 256) (o1 := 0) (o2 := 3072) (fun (r : Fin 8) j => upRow x0 x1 x2 ⟨1024 + r.val - 8, by omega⟩ j) inb_S8x5632_S8x256_0_3072 _ fun r k hr hk => ?_
      unfold_payloads
      pointwise
      simp only [A_v110, Nat.zero_add]
    · refine piece_of (Val := Elt Ideal) (e := .f32) (R := 8) (C := 5632) (n := 8) (m := 256) (o1 := 0) (o2 := 0) (fun (r : Fin 8) j => upRow x0 x1 x2 ⟨1024 + r.val - 8, by omega⟩ j) inb_S8x5632_S8x256_0_0 _ fun r k hr hk => ?_
      unfold_payloads
      pointwise
      simp only [A_v64, Nat.zero_add]
    · refine piece_of (Val := Elt Ideal) (e := .f32) (R := 8) (C := 5632) (n := 8) (m := 256) (o1 := 0) (o2 := 2816) (fun (r : Fin 8) j => upRow x0 x1 x2 ⟨1024 + r.val - 8, by omega⟩ j) inb_S8x5632_S8x256_0_2816 _ fun r k hr hk => ?_
      unfold_payloads
      pointwise
      simp only [A_v31, Nat.zero_add]
  · exact View.cover_of_tiledL (s := S8x5632) ((kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1.take 22) S8x256.size (by sl_kernel_rfl) _

end Cert.Ffn

end
-- ==== Proof.FfnReadsB.lean ====
module

public import proofs.«01_k».proof.Proof.FfnSpec

@[expose] public section

set_option maxRecDepth 16384

noncomputable section

namespace Cert.Ffn

open Idealize.ShloMosaic Cert.KernelIdeal Cert.KernelIdeal.Gen

variable (c : Dev nD) (i : grid0.Coords)
  (arg1 : Memref sig .tc .vmem S1024x1024 .f32) (harg1 : arg1.IsWhole) (arg2 : Memref sig .tc .vmem S1x1024 .f32) (harg2 : arg2.IsWhole)
  (arg3 : Memref sig .tc .vmem S1024x5632 .bf16) (harg3 : arg3.IsWhole) (arg4 : Memref sig .tc .vmem S3x5632 .f32) (harg4 : arg4.IsWhole)
  (arg5 : Memref sig .tc .vmem S1x5632 .f32) (harg5 : arg5.IsWhole) (arg6 : Memref sig .tc .vmem S2816x1024 .bf16) (harg6 : arg6.IsWhole)
  (arg7 : Memref sig .tc .vmem S1x1024 .f32) (harg7 : arg7.IsWhole) (arg8 : Memref sig .tc .vmem S1024x1024 .f32) (harg8 : arg8.IsWhole)
  (arg9 : Memref sig .tc .vmem S1024x1024 .bf16) (harg9 : arg9.IsWhole) (arg10 : Memref sig .tc .vmem S1032x256 .f32) (harg10 : arg10.IsWhole)
  (arg11 : Memref sig .tc .vmem S8x5632 .f32) (harg11 : arg11.IsWhole) (arg12 : Memref sig .tc .vmem S1024x2816 .bf16) (harg12 : arg12.IsWhole)
  (x0 : Vec Ideal S1024x1024 .f32) (x1 : Vec Ideal S1x1024 .f32) (x2 : Vec Ideal S1024x5632 .bf16) (x3 : Vec Ideal S3x5632 .f32)
  (x4 : Vec Ideal S1x5632 .f32) (x5 : Vec Ideal S2816x1024 .bf16) (x6 : Vec Ideal S1x1024 .f32) (xs2 : Vec Ideal S8x5632 .f32)

theorem B_h (r k : Fin 1024) : kernelRun0_B.sl.v21 (F := Ideal) c arg1 harg1 arg2 harg2 arg9 x0 x1 (ix2 r k) = rms (fun l => x0 (ix2 r l)) (fun l => x1 (ix2 0 l)) k := by
  unfold kernelRun0_B.sl.v21 kernelRun0_B.sl.HS0_1
  rw [View.readCov_cons_toLoadRect]
  simp only [View.readAt_eq_ld, harg1.read_unread, harg2.read_unread]
  unfold_payloads
  unfold rms
  pointwise

theorem B_v31 (r : Fin 8) (k : Fin 256) : kernelRun0_B.sl.v31 (F := Ideal) c arg1 harg1 arg2 harg2 arg3 harg3 arg9 arg10 arg11 harg11 x0 x1 x2 xs2 (ix2 r k)
    = upRow x0 x1 x2 ⟨1024 + r.val - 8, by omega⟩ ⟨2816 + k.val, by omega⟩ := by
  unfold kernelRun0_B.sl.v31 kernelRun0_B.sl.HS1_2
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v42 (r : Fin 1024) (k : Fin 256) : kernelRun0_B.sl.v42 (F := Ideal) c arg1 harg1 arg2 harg2 arg3 harg3 arg9 arg10 arg11 harg11 x0 x1 x2 xs2 (ix2 r k)
    = back (fun r j => xs2 (ix2 r j)) (upRow x0 x1 x2) 6 (by decide) r ⟨2816 + k.val, by omega⟩ := by
  unfold kernelRun0_B.sl.v42 kernelRun0_B.sl.HS1_2
  refine (read_rows _ 1024 6 _ _ _ _ _ _ r k (by omega)).trans ?_
  unfold back upRow
  refine dite_congr rfl (fun h => ?_) (fun h => ?_)
  · skip
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v48 (r : Fin 1024) (k : Fin 256) : kernelRun0_B.sl.v48 (F := Ideal) c arg1 harg1 arg2 harg2 arg3 harg3 arg9 arg10 arg11 harg11 x0 x1 x2 xs2 (ix2 r k)
    = back (fun r j => xs2 (ix2 r j)) (upRow x0 x1 x2) 7 (by decide) r ⟨2816 + k.val, by omega⟩ := by
  unfold kernelRun0_B.sl.v48 kernelRun0_B.sl.HS1_2
  refine (read_rows _ 1024 7 _ _ _ _ _ _ r k (by omega)).trans ?_
  unfold back upRow
  refine dite_congr rfl (fun h => ?_) (fun h => ?_)
  · skip
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v64 (r : Fin 8) (k : Fin 256) : kernelRun0_B.sl.v64 (F := Ideal) c arg1 harg1 arg2 harg2 arg3 harg3 arg9 arg10 arg11 harg11 x0 x1 x2 xs2 (ix2 r k)
    = upRow x0 x1 x2 ⟨1024 + r.val - 8, by omega⟩ ⟨0 + k.val, by omega⟩ := by
  unfold kernelRun0_B.sl.v64 kernelRun0_B.sl.HS1_4
  refine (read_rows _ 8 1024 _ _ _ _ _ _ r k (by omega)).trans ?_
  unfold upRow
  rw [dif_neg (by omega)]
  unfold kernelRun0_B.sl.r_3
  unfold_payloads
  simp only [View.readAt_eq_ld, harg1.read_unread, harg2.read_unread, harg3.read_unread, harg11.read_unread]
  pointwise
  simp only [B_h, Nat.zero_add]

theorem B_v75 (r : Fin 1024) (k : Fin 256) : kernelRun0_B.sl.v75 (F := Ideal) c arg1 harg1 arg2 harg2 arg3 harg3 arg9 arg10 arg11 harg11 x0 x1 x2 xs2 (ix2 r k)
    = back (fun r j => xs2 (ix2 r j)) (upRow x0 x1 x2) 6 (by decide) r ⟨0 + k.val, by omega⟩ := by
  unfold kernelRun0_B.sl.v75 kernelRun0_B.sl.HS1_4
  refine (read_rows _ 1024 6 _ _ _ _ _ _ r k (by omega)).trans ?_
  unfold back upRow
  refine dite_congr rfl (fun h => ?_) (fun h => ?_)
  · unfold kernelRun0_B.sl.v57
    unfold_payloads
    simp only [View.readAt_eq_ld, harg1.read_unread, harg2.read_unread, harg3.read_unread, harg11.read_unread]
    pointwise
  · unfold kernelRun0_B.sl.r_3
    unfold_payloads
    simp only [View.readAt_eq_ld, harg1.read_unread, harg2.read_unread, harg3.read_unread, harg11.read_unread]
    pointwise
    simp only [B_h]

theorem B_v81 (r : Fin 1024) (k : Fin 256) : kernelRun0_B.sl.v81 (F := Ideal) c arg1 harg1 arg2 harg2 arg3 harg3 arg9 arg10 arg11 harg11 x0 x1 x2 xs2 (ix2 r k)
    = back (fun r j => xs2 (ix2 r j)) (upRow x0 x1 x2) 7 (by decide) r ⟨0 + k.val, by omega⟩ := by
  unfold kernelRun0_B.sl.v81 kernelRun0_B.sl.HS1_4
  refine (read_rows _ 1024 7 _ _ _ _ _ _ r k (by omega)).trans ?_
  unfold back upRow
  refine dite_congr rfl (fun h => ?_) (fun h => ?_)
  · unfold kernelRun0_B.sl.v57
    unfold_payloads
    simp only [View.readAt_eq_ld, harg1.read_unread, harg2.read_unread, harg3.read_unread, harg11.read_unread]
    pointwise
  · unfold kernelRun0_B.sl.r_3
    unfold_payloads
    simp only [View.readAt_eq_ld, harg1.read_unread, harg2.read_unread, harg3.read_unread, harg11.read_unread]
    pointwise
    simp only [B_h]

theorem B_v110 (r : Fin 8) (k : Fin 256) : kernelRun0_B.sl.v110 (F := Ideal) c arg1 harg1 arg2 harg2 arg3 harg3 arg9 arg10 arg11 harg11 x0 x1 x2 xs2 (ix2 r k)
    = upRow x0 x1 x2 ⟨1024 + r.val - 8, by omega⟩ ⟨3072 + k.val, by omega⟩ := by
  unfold kernelRun0_B.sl.v110 kernelRun0_B.sl.HS1_6
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v121 (r : Fin 1024) (k : Fin 256) : kernelRun0_B.sl.v121 (F := Ideal) c arg1 harg1 arg2 harg2 arg3 harg3 arg9 arg10 arg11 harg11 x0 x1 x2 xs2 (ix2 r k)
    = back (fun r j => xs2 (ix2 r j)) (upRow x0 x1 x2) 6 (by decide) r ⟨3072 + k.val, by omega⟩ := by
  unfold kernelRun0_B.sl.v121 kernelRun0_B.sl.HS1_6
  refine (read_rows _ 1024 6 _ _ _ _ _ _ r k (by omega)).trans ?_
  unfold back upRow
  refine dite_congr rfl (fun h => ?_) (fun h => ?_)
  · unfold kernelRun0_B.sl.v103
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v127 (r : Fin 1024) (k : Fin 256) : kernelRun0_B.sl.v127 (F := Ideal) c arg1 harg1 arg2 harg2 arg3 harg3 arg9 arg10 arg11 harg11 x0 x1 x2 xs2 (ix2 r k)
    = back (fun r j => xs2 (ix2 r j)) (upRow x0 x1 x2) 7 (by decide) r ⟨3072 + k.val, by omega⟩ := by
  unfold kernelRun0_B.sl.v127 kernelRun0_B.sl.HS1_6
  refine (read_rows _ 1024 7 _ _ _ _ _ _ r k (by omega)).trans ?_
  unfold back upRow
  refine dite_congr rfl (fun h => ?_) (fun h => ?_)
  · unfold kernelRun0_B.sl.v103
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v143 (r : Fin 8) (k : Fin 256) : kernelRun0_B.sl.v143 (F := Ideal) c arg1 harg1 arg2 harg2 arg3 harg3 arg9 arg10 arg11 harg11 x0 x1 x2 xs2 (ix2 r k)
    = upRow x0 x1 x2 ⟨1024 + r.val - 8, by omega⟩ ⟨256 + k.val, by omega⟩ := by
  unfold kernelRun0_B.sl.v143 kernelRun0_B.sl.HS1_8
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v154 (r : Fin 1024) (k : Fin 256) : kernelRun0_B.sl.v154 (F := Ideal) c arg1 harg1 arg2 harg2 arg3 harg3 arg9 arg10 arg11 harg11 x0 x1 x2 xs2 (ix2 r k)
    = back (fun r j => xs2 (ix2 r j)) (upRow x0 x1 x2) 6 (by decide) r ⟨256 + k.val, by omega⟩ := by
  unfold kernelRun0_B.sl.v154 kernelRun0_B.sl.HS1_8
  refine (read_rows _ 1024 6 _ _ _ _ _ _ r k (by omega)).trans ?_
  unfold back upRow
  refine dite_congr rfl (fun h => ?_) (fun h => ?_)
  · unfold kernelRun0_B.sl.v136
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v160 (r : Fin 1024) (k : Fin 256) : kernelRun0_B.sl.v160 (F := Ideal) c arg1 harg1 arg2 harg2 arg3 harg3 arg9 arg10 arg11 harg11 x0 x1 x2 xs2 (ix2 r k)
    = back (fun r j => xs2 (ix2 r j)) (upRow x0 x1 x2) 7 (by decide) r ⟨256 + k.val, by omega⟩ := by
  unfold kernelRun0_B.sl.v160 kernelRun0_B.sl.HS1_8
  refine (read_rows _ 1024 7 _ _ _ _ _ _ r k (by omega)).trans ?_
  unfold back upRow
  refine dite_congr rfl (fun h => ?_) (fun h => ?_)
  · unfold kernelRun0_B.sl.v136
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v189 (r : Fin 8) (k : Fin 256) : kernelRun0_B.sl.v189 (F := Ideal) c arg1 harg1 arg2 harg2 arg3 harg3 arg9 arg10 arg11 harg11 x0 x1 x2 xs2 (ix2 r k)
    = upRow x0 x1 x2 ⟨1024 + r.val - 8, by omega⟩ ⟨3328 + k.val, by omega⟩ := by
  unfold kernelRun0_B.sl.v189 kernelRun0_B.sl.HS1_10
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v200 (r : Fin 1024) (k : Fin 256) : kernelRun0_B.sl.v200 (F := Ideal) c arg1 harg1 arg2 harg2 arg3 harg3 arg9 arg10 arg11 harg11 x0 x1 x2 xs2 (ix2 r k)
    = back (fun r j => xs2 (ix2 r j)) (upRow x0 x1 x2) 6 (by decide) r ⟨3328 + k.val, by omega⟩ := by
  unfold kernelRun0_B.sl.v200 kernelRun0_B.sl.HS1_10
  refine (read_rows _ 1024 6 _ _ _ _ _ _ r k (by omega)).trans ?_
  unfold back upRow
  refine dite_congr rfl (fun h => ?_) (fun h => ?_)
  · unfold kernelRun0_B.sl.v182
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v206 (r : Fin 1024) (k : Fin 256) : kernelRun0_B.sl.v206 (F := Ideal) c arg1 harg1 arg2 harg2 arg3 harg3 arg9 arg10 arg11 harg11 x0 x1 x2 xs2 (ix2 r k)
    = back (fun r j => xs2 (ix2 r j)) (upRow x0 x1 x2) 7 (by decide) r ⟨3328 + k.val, by omega⟩ := by
  unfold kernelRun0_B.sl.v206 kernelRun0_B.sl.HS1_10
  refine (read_rows _ 1024 7 _ _ _ _ _ _ r k (by omega)).trans ?_
  unfold back upRow
  refine dite_congr rfl (fun h => ?_) (fun h => ?_)
  · unfold kernelRun0_B.sl.v182
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v222 (r : Fin 8) (k : Fin 256) : kernelRun0_B.sl.v222 (F := Ideal) c arg1 harg1 arg2 harg2 arg3 harg3 arg9 arg10 arg11 harg11 x0 x1 x2 xs2 (ix2 r k)
    = upRow x0 x1 x2 ⟨1024 + r.val - 8, by omega⟩ ⟨512 + k.val, by omega⟩ := by
  unfold kernelRun0_B.sl.v222 kernelRun0_B.sl.HS1_12
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v233 (r : Fin 1024) (k : Fin 256) : kernelRun0_B.sl.v233 (F := Ideal) c arg1 harg1 arg2 harg2 arg3 harg3 arg9 arg10 arg11 harg11 x0 x1 x2 xs2 (ix2 r k)
    = back (fun r j => xs2 (ix2 r j)) (upRow x0 x1 x2) 6 (by decide) r ⟨512 + k.val, by omega⟩ := by
  unfold kernelRun0_B.sl.v233 kernelRun0_B.sl.HS1_12
  refine (read_rows _ 1024 6 _ _ _ _ _ _ r k (by omega)).trans ?_
  unfold back upRow
  refine dite_congr rfl (fun h => ?_) (fun h => ?_)
  · unfold kernelRun0_B.sl.v215
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v239 (r : Fin 1024) (k : Fin 256) : kernelRun0_B.sl.v239 (F := Ideal) c arg1 harg1 arg2 harg2 arg3 harg3 arg9 arg10 arg11 harg11 x0 x1 x2 xs2 (ix2 r k)
    = back (fun r j => xs2 (ix2 r j)) (upRow x0 x1 x2) 7 (by decide) r ⟨512 + k.val, by omega⟩ := by
  unfold kernelRun0_B.sl.v239 kernelRun0_B.sl.HS1_12
  refine (read_rows _ 1024 7 _ _ _ _ _ _ r k (by omega)).trans ?_
  unfold back upRow
  refine dite_congr rfl (fun h => ?_) (fun h => ?_)
  · unfold kernelRun0_B.sl.v215
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v268 (r : Fin 8) (k : Fin 256) : kernelRun0_B.sl.v268 (F := Ideal) c arg1 harg1 arg2 harg2 arg3 harg3 arg9 arg10 arg11 harg11 x0 x1 x2 xs2 (ix2 r k)
    = upRow x0 x1 x2 ⟨1024 + r.val - 8, by omega⟩ ⟨3584 + k.val, by omega⟩ := by
  unfold kernelRun0_B.sl.v268 kernelRun0_B.sl.HS1_14
  refine (read_rows _ 8 1024 _ _ _ _ _ _ r k (by omega)).trans ?_
  unfold upRow
  rw [dif_neg (by omega)]
  unfold kernelRun0_B.sl.r_12
  unfold_payloads
  simp only [View.readAt_eq_ld, harg1.read_unread, harg2.read_unread, harg3.read_unread, harg11.read_unread]
  pointwise
  simp only [B_h, Nat.zero_add]

theorem B_v279 (r : Fin 1024) (k : Fin 256) : kernelRun0_B.sl.v279 (F := Ideal) c arg1 harg1 arg2 harg2 arg3 harg3 arg9 arg10 arg11 harg11 x0 x1 x2 xs2 (ix2 r k)
    = back (fun r j => xs2 (ix2 r j)) (upRow x0 x1 x2) 6 (by decide) r ⟨3584 + k.val, by omega⟩ := by
  unfold kernelRun0_B.sl.v279 kernelRun0_B.sl.HS1_14
  refine (read_rows _ 1024 6 _ _ _ _ _ _ r k (by omega)).trans ?_
  unfold back upRow
  refine dite_congr rfl (fun h => ?_) (fun h => ?_)
  · unfold kernelRun0_B.sl.v261
    unfold_payloads
    simp only [View.readAt_eq_ld, harg1.read_unread, harg2.read_unread, harg3.read_unread, harg11.read_unread]
    pointwise
  · unfold kernelRun0_B.sl.r_12
    unfold_payloads
    simp only [View.readAt_eq_ld, harg1.read_unread, harg2.read_unread, harg3.read_unread, harg11.read_unread]
    pointwise
    simp only [B_h]

theorem B_v285 (r : Fin 1024) (k : Fin 256) : kernelRun0_B.sl.v285 (F := Ideal) c arg1 harg1 arg2 harg2 arg3 harg3 arg9 arg10 arg11 harg11 x0 x1 x2 xs2 (ix2 r k)
    = back (fun r j => xs2 (ix2 r j)) (upRow x0 x1 x2) 7 (by decide) r ⟨3584 + k.val, by omega⟩ := by
  unfold kernelRun0_B.sl.v285 kernelRun0_B.sl.HS1_14
  refine (read_rows _ 1024 7 _ _ _ _ _ _ r k (by omega)).trans ?_
  unfold back upRow
  refine dite_congr rfl (fun h => ?_) (fun h => ?_)
  · unfold kernelRun0_B.sl.v261
    unfold_payloads
    simp only [View.readAt_eq_ld, harg1.read_unread, harg2.read_unread, harg3.read_unread, harg11.read_unread]
    pointwise
  · unfold kernelRun0_B.sl.r_12
    unfold_payloads
    simp only [View.readAt_eq_ld, harg1.read_unread, harg2.read_unread, harg3.read_unread, harg11.read_unread]
    pointwise
    simp only [B_h]

theorem B_v301 (r : Fin 8) (k : Fin 256) : kernelRun0_B.sl.v301 (F := Ideal) c arg1 harg1 arg2 harg2 arg3 harg3 arg9 arg10 arg11 harg11 x0 x1 x2 xs2 (ix2 r k)
    = upRow x0 x1 x2 ⟨1024 + r.val - 8, by omega⟩ ⟨768 + k.val, by omega⟩ := by
  unfold kernelRun0_B.sl.v301 kernelRun0_B.sl.HS1_16
  refine (read_rows _ 8 1024 _ _ _ _ _ _ r k (by omega)).trans ?_
  unfold upRow
  rw [dif_neg (by omega)]
  unfold kernelRun0_B.sl.r_14 kernelRun0_B.sl.cst_203
  unfold_payloads
  simp only [View.readAt_eq_ld, harg1.read_unread, harg2.read_unread, harg3.read_unread, harg11.read_unread]
  pointwise
  simp only [B_h, Nat.zero_add]

theorem B_v312 (r : Fin 1024) (k : Fin 256) : kernelRun0_B.sl.v312 (F := Ideal) c arg1 harg1 arg2 harg2 arg3 harg3 arg9 arg10 arg11 harg11 x0 x1 x2 xs2 (ix2 r k)
    = back (fun r j => xs2 (ix2 r j)) (upRow x0 x1 x2) 6 (by decide) r ⟨768 + k.val, by omega⟩ := by
  unfold kernelRun0_B.sl.v312 kernelRun0_B.sl.HS1_16
  refine (read_rows _ 1024 6 _ _ _ _ _ _ r k (by omega)).trans ?_
  unfold back upRow
  refine dite_congr rfl (fun h => ?_) (fun h => ?_)
  · unfold kernelRun0_B.sl.v294
    unfold_payloads
    simp only [View.readAt_eq_ld, harg1.read_unread, harg2.read_unread, harg3.read_unread, harg11.read_unread]
    pointwise
  · unfold kernelRun0_B.sl.r_14 kernelRun0_B.sl.cst_203
    unfold_payloads
    simp only [View.readAt_eq_ld, harg1.read_unread, harg2.read_unread, harg3.read_unread, harg11.read_unread]
    pointwise
    simp only [B_h]

theorem B_v318 (r : Fin 1024) (k : Fin 256) : kernelRun0_B.sl.v318 (F := Ideal) c arg1 harg1 arg2 harg2 arg3 harg3 arg9 arg10 arg11 harg11 x0 x1 x2 xs2 (ix2 r k)
    = back (fun r j => xs2 (ix2 r j)) (upRow x0 x1 x2) 7 (by decide) r ⟨768 + k.val, by omega⟩ := by
  unfold kernelRun0_B.sl.v318 kernelRun0_B.sl.HS1_16
  refine (read_rows _ 1024 7 _ _ _ _ _ _ r k (by omega)).trans ?_
  unfold back upRow
  refine dite_congr rfl (fun h => ?_) (fun h => ?_)
  · unfold kernelRun0_B.sl.v294
    unfold_payloads
    simp only [View.readAt_eq_ld, harg1.read_unread, harg2.read_unread, harg3.read_unread, harg11.read_unread]
    pointwise
  · unfold kernelRun0_B.sl.r_14 kernelRun0_B.sl.cst_203
    unfold_payloads
    simp only [View.readAt_eq_ld, harg1.read_unread, harg2.read_unread, harg3.read_unread, harg11.read_unread]
    pointwise
    simp only [B_h]

theorem B_v347 (r : Fin 8) (k : Fin 256) : kernelRun0_B.sl.v347 (F := Ideal) c arg1 harg1 arg2 harg2 arg3 harg3 arg9 arg10 arg11 harg11 x0 x1 x2 xs2 (ix2 r k)
    = upRow x0 x1 x2 ⟨1024 + r.val - 8, by omega⟩ ⟨3840 + k.val, by omega⟩ := by
  unfold kernelRun0_B.sl.v347 kernelRun0_B.sl.HS1_18
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v358 (r : Fin 1024) (k : Fin 256) : kernelRun0_B.sl.v358 (F := Ideal) c arg1 harg1 arg2 harg2 arg3 harg3 arg9 arg10 arg11 harg11 x0 x1 x2 xs2 (ix2 r k)
    = back (fun r j => xs2 (ix2 r j)) (upRow x0 x1 x2) 6 (by decide) r ⟨3840 + k.val, by omega⟩ := by
  unfold kernelRun0_B.sl.v358 kernelRun0_B.sl.HS1_18
  refine (read_rows _ 1024 6 _ _ _ _ _ _ r k (by omega)).trans ?_
  unfold back upRow
  refine dite_congr rfl (fun h => ?_) (fun h => ?_)
  · unfold kernelRun0_B.sl.v340
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v364 (r : Fin 1024) (k : Fin 256) : kernelRun0_B.sl.v364 (F := Ideal) c arg1 harg1 arg2 harg2 arg3 harg3 arg9 arg10 arg11 harg11 x0 x1 x2 xs2 (ix2 r k)
    = back (fun r j => xs2 (ix2 r j)) (upRow x0 x1 x2) 7 (by decide) r ⟨3840 + k.val, by omega⟩ := by
  unfold kernelRun0_B.sl.v364 kernelRun0_B.sl.HS1_18
  refine (read_rows _ 1024 7 _ _ _ _ _ _ r k (by omega)).trans ?_
  unfold back upRow
  refine dite_congr rfl (fun h => ?_) (fun h => ?_)
  · unfold kernelRun0_B.sl.v340
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v380 (r : Fin 8) (k : Fin 256) : kernelRun0_B.sl.v380 (F := Ideal) c arg1 harg1 arg2 harg2 arg3 harg3 arg9 arg10 arg11 harg11 x0 x1 x2 xs2 (ix2 r k)
    = upRow x0 x1 x2 ⟨1024 + r.val - 8, by omega⟩ ⟨1024 + k.val, by omega⟩ := by
  unfold kernelRun0_B.sl.v380 kernelRun0_B.sl.HS1_20
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v391 (r : Fin 1024) (k : Fin 256) : kernelRun0_B.sl.v391 (F := Ideal) c arg1 harg1 arg2 harg2 arg3 harg3 arg9 arg10 arg11 harg11 x0 x1 x2 xs2 (ix2 r k)
    = back (fun r j => xs2 (ix2 r j)) (upRow x0 x1 x2) 6 (by decide) r ⟨1024 + k.val, by omega⟩ := by
  unfold kernelRun0_B.sl.v391 kernelRun0_B.sl.HS1_20
  refine (read_rows _ 1024 6 _ _ _ _ _ _ r k (by omega)).trans ?_
  unfold back upRow
  refine dite_congr rfl (fun h => ?_) (fun h => ?_)
  · unfold kernelRun0_B.sl.v373
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v397 (r : Fin 1024) (k : Fin 256) : kernelRun0_B.sl.v397 (F := Ideal) c arg1 harg1 arg2 harg2 arg3 harg3 arg9 arg10 arg11 harg11 x0 x1 x2 xs2 (ix2 r k)
    = back (fun r j => xs2 (ix2 r j)) (upRow x0 x1 x2) 7 (by decide) r ⟨1024 + k.val, by omega⟩ := by
  unfold kernelRun0_B.sl.v397 kernelRun0_B.sl.HS1_20
  refine (read_rows _ 1024 7 _ _ _ _ _ _ r k (by omega)).trans ?_
  unfold back upRow
  refine dite_congr rfl (fun h => ?_) (fun h => ?_)
  · unfold kernelRun0_B.sl.v373
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v426 (r : Fin 8) (k : Fin 256) : kernelRun0_B.sl.v426 (F := Ideal) c arg1 harg1 arg2 harg2 arg3 harg3 arg9 arg10 arg11 harg11 x0 x1 x2 xs2 (ix2 r k)
    = upRow x0 x1 x2 ⟨1024 + r.val - 8, by omega⟩ ⟨4096 + k.val, by omega⟩ := by
  unfold kernelRun0_B.sl.v426 kernelRun0_B.sl.HS1_22 kernelRun0_B.sl.HS1_21
  refine (read_rows _ 8 1024 _ _ _ _ _ _ r k (by omega)).trans ?_
  unfold upRow
  rw [dif_neg (by omega)]
  unfold kernelRun0_B.sl.r_21
  unfold_payloads
  simp only [View.readAt_eq_ld, harg1.read_unread, harg2.read_unread, harg3.read_unread, harg11.read_unread]
  pointwise
  simp only [B_h, Nat.zero_add]

theorem B_v437 (r : Fin 1024) (k : Fin 256) : kernelRun0_B.sl.v437 (F := Ideal) c arg1 harg1 arg2 harg2 arg3 harg3 arg9 arg10 arg11 harg11 x0 x1 x2 xs2 (ix2 r k)
    = back (fun r j => xs2 (ix2 r j)) (upRow x0 x1 x2) 6 (by decide) r ⟨4096 + k.val, by omega⟩ := by
  unfold kernelRun0_B.sl.v437 kernelRun0_B.sl.HS1_22 kernelRun0_B.sl.HS1_21
  refine (read_rows _ 1024 6 _ _ _ _ _ _ r k (by omega)).trans ?_
  unfold back upRow
  refine dite_congr rfl (fun h => ?_) (fun h => ?_)
  · unfold kernelRun0_B.sl.v419
    unfold_payloads
    simp only [View.readAt_eq_ld, harg1.read_unread, harg2.read_unread, harg3.read_unread, harg11.read_unread]
    pointwise
  · unfold kernelRun0_B.sl.r_21
    unfold_payloads
    simp only [View.readAt_eq_ld, harg1.read_unread, harg2.read_unread, harg3.read_unread, harg11.read_unread]
    pointwise
    simp only [B_h]

theorem B_v443 (r : Fin 1024) (k : Fin 256) : kernelRun0_B.sl.v443 (F := Ideal) c arg1 harg1 arg2 harg2 arg3 harg3 arg9 arg10 arg11 harg11 x0 x1 x2 xs2 (ix2 r k)
    = back (fun r j => xs2 (ix2 r j)) (upRow x0 x1 x2) 7 (by decide) r ⟨4096 + k.val, by omega⟩ := by
  unfold kernelRun0_B.sl.v443 kernelRun0_B.sl.HS1_22 kernelRun0_B.sl.HS1_21
  refine (read_rows _ 1024 7 _ _ _ _ _ _ r k (by omega)).trans ?_
  unfold back upRow
  refine dite_congr rfl (fun h => ?_) (fun h => ?_)
  · unfold kernelRun0_B.sl.v419
    unfold_payloads
    simp only [View.readAt_eq_ld, harg1.read_unread, harg2.read_unread, harg3.read_unread, harg11.read_unread]
    pointwise
  · unfold kernelRun0_B.sl.r_21
    unfold_payloads
    simp only [View.readAt_eq_ld, harg1.read_unread, harg2.read_unread, harg3.read_unread, harg11.read_unread]
    pointwise
    simp only [B_h]

theorem B_v459 (r : Fin 8) (k : Fin 256) : kernelRun0_B.sl.v459 (F := Ideal) c arg1 harg1 arg2 harg2 arg3 harg3 arg9 arg10 arg11 harg11 x0 x1 x2 xs2 (ix2 r k)
    = upRow x0 x1 x2 ⟨1024 + r.val - 8, by omega⟩ ⟨1280 + k.val, by omega⟩ := by
  unfold kernelRun0_B.sl.v459 kernelRun0_B.sl.HS1_24
  refine (read_rows _ 8 1024 _ _ _ _ _ _ r k (by omega)).trans ?_
  unfold upRow
  rw [dif_neg (by omega)]
  unfold kernelRun0_B.sl.r_23
  unfold_payloads
  simp only [View.readAt_eq_ld, harg1.read_unread, harg2.read_unread, harg3.read_unread, harg11.read_unread]
  pointwise
  simp only [B_h, Nat.zero_add]

theorem B_v470 (r : Fin 1024) (k : Fin 256) : kernelRun0_B.sl.v470 (F := Ideal) c arg1 harg1 arg2 harg2 arg3 harg3 arg9 arg10 arg11 harg11 x0 x1 x2 xs2 (ix2 r k)
    = back (fun r j => xs2 (ix2 r j)) (upRow x0 x1 x2) 6 (by decide) r ⟨1280 + k.val, by omega⟩ := by
  unfold kernelRun0_B.sl.v470 kernelRun0_B.sl.HS1_24
  refine (read_rows _ 1024 6 _ _ _ _ _ _ r k (by omega)).trans ?_
  unfold back upRow
  refine dite_congr rfl (fun h => ?_) (fun h => ?_)
  · unfold kernelRun0_B.sl.v452
    unfold_payloads
    simp only [View.readAt_eq_ld, harg1.read_unread, harg2.read_unread, harg3.read_unread, harg11.read_unread]
    pointwise
  · unfold kernelRun0_B.sl.r_23
    unfold_payloads
    simp only [View.readAt_eq_ld, harg1.read_unread, harg2.read_unread, harg3.read_unread, harg11.read_unread]
    pointwise
    simp only [B_h]

theorem B_v476 (r : Fin 1024) (k : Fin 256) : kernelRun0_B.sl.v476 (F := Ideal) c arg1 harg1 arg2 harg2 arg3 harg3 arg9 arg10 arg11 harg11 x0 x1 x2 xs2 (ix2 r k)
    = back (fun r j => xs2 (ix2 r j)) (upRow x0 x1 x2) 7 (by decide) r ⟨1280 + k.val, by omega⟩ := by
  unfold kernelRun0_B.sl.v476 kernelRun0_B.sl.HS1_24
  refine (read_rows _ 1024 7 _ _ _ _ _ _ r k (by omega)).trans ?_
  unfold back upRow
  refine dite_congr rfl (fun h => ?_) (fun h => ?_)
  · unfold kernelRun0_B.sl.v452
    unfold_payloads
    simp only [View.readAt_eq_ld, harg1.read_unread, harg2.read_unread, harg3.read_unread, harg11.read_unread]
    pointwise
  · unfold kernelRun0_B.sl.r_23
    unfold_payloads
    simp only [View.readAt_eq_ld, harg1.read_unread, harg2.read_unread, harg3.read_unread, harg11.read_unread]
    pointwise
    simp only [B_h]

theorem B_v505 (r : Fin 8) (k : Fin 256) : kernelRun0_B.sl.v505 (F := Ideal) c arg1 harg1 arg2 harg2 arg3 harg3 arg9 arg10 arg11 harg11 x0 x1 x2 xs2 (ix2 r k)
    = upRow x0 x1 x2 ⟨1024 + r.val - 8, by omega⟩ ⟨4352 + k.val, by omega⟩ := by
  unfold kernelRun0_B.sl.v505 kernelRun0_B.sl.HS1_26
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v516 (r : Fin 1024) (k : Fin 256) : kernelRun0_B.sl.v516 (F := Ideal) c arg1 harg1 arg2 harg2 arg3 harg3 arg9 arg10 arg11 harg11 x0 x1 x2 xs2 (ix2 r k)
    = back (fun r j => xs2 (ix2 r j)) (upRow x0 x1 x2) 6 (by decide) r ⟨4352 + k.val, by omega⟩ := by
  unfold kernelRun0_B.sl.v516 kernelRun0_B.sl.HS1_26
  refine (read_rows _ 1024 6 _ _ _ _ _ _ r k (by omega)).trans ?_
  unfold back upRow
  refine dite_congr rfl (fun h => ?_) (fun h => ?_)
  · unfold kernelRun0_B.sl.v498
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v522 (r : Fin 1024) (k : Fin 256) : kernelRun0_B.sl.v522 (F := Ideal) c arg1 harg1 arg2 harg2 arg3 harg3 arg9 arg10 arg11 harg11 x0 x1 x2 xs2 (ix2 r k)
    = back (fun r j => xs2 (ix2 r j)) (upRow x0 x1 x2) 7 (by decide) r ⟨4352 + k.val, by omega⟩ := by
  unfold kernelRun0_B.sl.v522 kernelRun0_B.sl.HS1_26
  refine (read_rows _ 1024 7 _ _ _ _ _ _ r k (by omega)).trans ?_
  unfold back upRow
  refine dite_congr rfl (fun h => ?_) (fun h => ?_)
  · unfold kernelRun0_B.sl.v498
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v538 (r : Fin 8) (k : Fin 256) : kernelRun0_B.sl.v538 (F := Ideal) c arg1 harg1 arg2 harg2 arg3 harg3 arg9 arg10 arg11 harg11 x0 x1 x2 xs2 (ix2 r k)
    = upRow x0 x1 x2 ⟨1024 + r.val - 8, by omega⟩ ⟨1536 + k.val, by omega⟩ := by
  unfold kernelRun0_B.sl.v538 kernelRun0_B.sl.HS1_28
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v549 (r : Fin 1024) (k : Fin 256) : kernelRun0_B.sl.v549 (F := Ideal) c arg1 harg1 arg2 harg2 arg3 harg3 arg9 arg10 arg11 harg11 x0 x1 x2 xs2 (ix2 r k)
    = back (fun r j => xs2 (ix2 r j)) (upRow x0 x1 x2) 6 (by decide) r ⟨1536 + k.val, by omega⟩ := by
  unfold kernelRun0_B.sl.v549 kernelRun0_B.sl.HS1_28
  refine (read_rows _ 1024 6 _ _ _ _ _ _ r k (by omega)).trans ?_
  unfold back upRow
  refine dite_congr rfl (fun h => ?_) (fun h => ?_)
  · unfold kernelRun0_B.sl.v531
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v555 (r : Fin 1024) (k : Fin 256) : kernelRun0_B.sl.v555 (F := Ideal) c arg1 harg1 arg2 harg2 arg3 harg3 arg9 arg10 arg11 harg11 x0 x1 x2 xs2 (ix2 r k)
    = back (fun r j => xs2 (ix2 r j)) (upRow x0 x1 x2) 7 (by decide) r ⟨1536 + k.val, by omega⟩ := by
  unfold kernelRun0_B.sl.v555 kernelRun0_B.sl.HS1_28
  refine (read_rows _ 1024 7 _ _ _ _ _ _ r k (by omega)).trans ?_
  unfold back upRow
  refine dite_congr rfl (fun h => ?_) (fun h => ?_)
  · unfold kernelRun0_B.sl.v531
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v584 (r : Fin 8) (k : Fin 256) : kernelRun0_B.sl.v584 (F := Ideal) c arg1 harg1 arg2 harg2 arg3 harg3 arg9 arg10 arg11 harg11 x0 x1 x2 xs2 (ix2 r k)
    = upRow x0 x1 x2 ⟨1024 + r.val - 8, by omega⟩ ⟨4608 + k.val, by omega⟩ := by
  unfold kernelRun0_B.sl.v584 kernelRun0_B.sl.HS1_30
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v595 (r : Fin 1024) (k : Fin 256) : kernelRun0_B.sl.v595 (F := Ideal) c arg1 harg1 arg2 harg2 arg3 harg3 arg9 arg10 arg11 harg11 x0 x1 x2 xs2 (ix2 r k)
    = back (fun r j => xs2 (ix2 r j)) (upRow x0 x1 x2) 6 (by decide) r ⟨4608 + k.val, by omega⟩ := by
  unfold kernelRun0_B.sl.v595 kernelRun0_B.sl.HS1_30
  refine (read_rows _ 1024 6 _ _ _ _ _ _ r k (by omega)).trans ?_
  unfold back upRow
  refine dite_congr rfl (fun h => ?_) (fun h => ?_)
  · unfold kernelRun0_B.sl.v577
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v601 (r : Fin 1024) (k : Fin 256) : kernelRun0_B.sl.v601 (F := Ideal) c arg1 harg1 arg2 harg2 arg3 harg3 arg9 arg10 arg11 harg11 x0 x1 x2 xs2 (ix2 r k)
    = back (fun r j => xs2 (ix2 r j)) (upRow x0 x1 x2) 7 (by decide) r ⟨4608 + k.val, by omega⟩ := by
  unfold kernelRun0_B.sl.v601 kernelRun0_B.sl.HS1_30
  refine (read_rows _ 1024 7 _ _ _ _ _ _ r k (by omega)).trans ?_
  unfold back upRow
  refine dite_congr rfl (fun h => ?_) (fun h => ?_)
  · unfold kernelRun0_B.sl.v577
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v617 (r : Fin 8) (k : Fin 256) : kernelRun0_B.sl.v617 (F := Ideal) c arg1 harg1 arg2 harg2 arg3 harg3 arg9 arg10 arg11 harg11 x0 x1 x2 xs2 (ix2 r k)
    = upRow x0 x1 x2 ⟨1024 + r.val - 8, by omega⟩ ⟨1792 + k.val, by omega⟩ := by
  unfold kernelRun0_B.sl.v617 kernelRun0_B.sl.HS1_32
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v628 (r : Fin 1024) (k : Fin 256) : kernelRun0_B.sl.v628 (F := Ideal) c arg1 harg1 arg2 harg2 arg3 harg3 arg9 arg10 arg11 harg11 x0 x1 x2 xs2 (ix2 r k)
    = back (fun r j => xs2 (ix2 r j)) (upRow x0 x1 x2) 6 (by decide) r ⟨1792 + k.val, by omega⟩ := by
  unfold kernelRun0_B.sl.v628 kernelRun0_B.sl.HS1_32
  refine (read_rows _ 1024 6 _ _ _ _ _ _ r k (by omega)).trans ?_
  unfold back upRow
  refine dite_congr rfl (fun h => ?_) (fun h => ?_)
  · unfold kernelRun0_B.sl.v610
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v634 (r : Fin 1024) (k : Fin 256) : kernelRun0_B.sl.v634 (F := Ideal) c arg1 harg1 arg2 harg2 arg3 harg3 arg9 arg10 arg11 harg11 x0 x1 x2 xs2 (ix2 r k)
    = back (fun r j => xs2 (ix2 r j)) (upRow x0 x1 x2) 7 (by decide) r ⟨1792 + k.val, by omega⟩ := by
  unfold kernelRun0_B.sl.v634 kernelRun0_B.sl.HS1_32
  refine (read_rows _ 1024 7 _ _ _ _ _ _ r k (by omega)).trans ?_
  unfold back upRow
  refine dite_congr rfl (fun h => ?_) (fun h => ?_)
  · unfold kernelRun0_B.sl.v610
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v663 (r : Fin 8) (k : Fin 256) : kernelRun0_B.sl.v663 (F := Ideal) c arg1 harg1 arg2 harg2 arg3 harg3 arg9 arg10 arg11 harg11 x0 x1 x2 xs2 (ix2 r k)
    = upRow x0 x1 x2 ⟨1024 + r.val - 8, by omega⟩ ⟨4864 + k.val, by omega⟩ := by
  unfold kernelRun0_B.sl.v663 kernelRun0_B.sl.HS1_34
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v674 (r : Fin 1024) (k : Fin 256) : kernelRun0_B.sl.v674 (F := Ideal) c arg1 harg1 arg2 harg2 arg3 harg3 arg9 arg10 arg11 harg11 x0 x1 x2 xs2 (ix2 r k)
    = back (fun r j => xs2 (ix2 r j)) (upRow x0 x1 x2) 6 (by decide) r ⟨4864 + k.val, by omega⟩ := by
  unfold kernelRun0_B.sl.v674 kernelRun0_B.sl.HS1_34
  refine (read_rows _ 1024 6 _ _ _ _ _ _ r k (by omega)).trans ?_
  unfold back upRow
  refine dite_congr rfl (fun h => ?_) (fun h => ?_)
  · unfold kernelRun0_B.sl.v656
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v680 (r : Fin 1024) (k : Fin 256) : kernelRun0_B.sl.v680 (F := Ideal) c arg1 harg1 arg2 harg2 arg3 harg3 arg9 arg10 arg11 harg11 x0 x1 x2 xs2 (ix2 r k)
    = back (fun r j => xs2 (ix2 r j)) (upRow x0 x1 x2) 7 (by decide) r ⟨4864 + k.val, by omega⟩ := by
  unfold kernelRun0_B.sl.v680 kernelRun0_B.sl.HS1_34
  refine (read_rows _ 1024 7 _ _ _ _ _ _ r k (by omega)).trans ?_
  unfold back upRow
  refine dite_congr rfl (fun h => ?_) (fun h => ?_)
  · unfold kernelRun0_B.sl.v656
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v696 (r : Fin 8) (k : Fin 256) : kernelRun0_B.sl.v696 (F := Ideal) c arg1 harg1 arg2 harg2 arg3 harg3 arg9 arg10 arg11 harg11 x0 x1 x2 xs2 (ix2 r k)
    = upRow x0 x1 x2 ⟨1024 + r.val - 8, by omega⟩ ⟨2048 + k.val, by omega⟩ := by
  unfold kernelRun0_B.sl.v696 kernelRun0_B.sl.HS1_36
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v707 (r : Fin 1024) (k : Fin 256) : kernelRun0_B.sl.v707 (F := Ideal) c arg1 harg1 arg2 harg2 arg3 harg3 arg9 arg10 arg11 harg11 x0 x1 x2 xs2 (ix2 r k)
    = back (fun r j => xs2 (ix2 r j)) (upRow x0 x1 x2) 6 (by decide) r ⟨2048 + k.val, by omega⟩ := by
  unfold kernelRun0_B.sl.v707 kernelRun0_B.sl.HS1_36
  refine (read_rows _ 1024 6 _ _ _ _ _ _ r k (by omega)).trans ?_
  unfold back upRow
  refine dite_congr rfl (fun h => ?_) (fun h => ?_)
  · unfold kernelRun0_B.sl.v689
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v713 (r : Fin 1024) (k : Fin 256) : kernelRun0_B.sl.v713 (F := Ideal) c arg1 harg1 arg2 harg2 arg3 harg3 arg9 arg10 arg11 harg11 x0 x1 x2 xs2 (ix2 r k)
    = back (fun r j => xs2 (ix2 r j)) (upRow x0 x1 x2) 7 (by decide) r ⟨2048 + k.val, by omega⟩ := by
  unfold kernelRun0_B.sl.v713 kernelRun0_B.sl.HS1_36
  refine (read_rows _ 1024 7 _ _ _ _ _ _ r k (by omega)).trans ?_
  unfold back upRow
  refine dite_congr rfl (fun h => ?_) (fun h => ?_)
  · unfold kernelRun0_B.sl.v689
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v742 (r : Fin 8) (k : Fin 256) : kernelRun0_B.sl.v742 (F := Ideal) c arg1 harg1 arg2 harg2 arg3 harg3 arg9 arg10 arg11 harg11 x0 x1 x2 xs2 (ix2 r k)
    = upRow x0 x1 x2 ⟨1024 + r.val - 8, by omega⟩ ⟨5120 + k.val, by omega⟩ := by
  unfold kernelRun0_B.sl.v742 kernelRun0_B.sl.HS1_38
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v753 (r : Fin 1024) (k : Fin 256) : kernelRun0_B.sl.v753 (F := Ideal) c arg1 harg1 arg2 harg2 arg3 harg3 arg9 arg10 arg11 harg11 x0 x1 x2 xs2 (ix2 r k)
    = back (fun r j => xs2 (ix2 r j)) (upRow x0 x1 x2) 6 (by decide) r ⟨5120 + k.val, by omega⟩ := by
  unfold kernelRun0_B.sl.v753 kernelRun0_B.sl.HS1_38
  refine (read_rows _ 1024 6 _ _ _ _ _ _ r k (by omega)).trans ?_
  unfold back upRow
  refine dite_congr rfl (fun h => ?_) (fun h => ?_)
  · unfold kernelRun0_B.sl.v735
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v759 (r : Fin 1024) (k : Fin 256) : kernelRun0_B.sl.v759 (F := Ideal) c arg1 harg1 arg2 harg2 arg3 harg3 arg9 arg10 arg11 harg11 x0 x1 x2 xs2 (ix2 r k)
    = back (fun r j => xs2 (ix2 r j)) (upRow x0 x1 x2) 7 (by decide) r ⟨5120 + k.val, by omega⟩ := by
  unfold kernelRun0_B.sl.v759 kernelRun0_B.sl.HS1_38
  refine (read_rows _ 1024 7 _ _ _ _ _ _ r k (by omega)).trans ?_
  unfold back upRow
  refine dite_congr rfl (fun h => ?_) (fun h => ?_)
  · unfold kernelRun0_B.sl.v735
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v775 (r : Fin 8) (k : Fin 256) : kernelRun0_B.sl.v775 (F := Ideal) c arg1 harg1 arg2 harg2 arg3 harg3 arg9 arg10 arg11 harg11 x0 x1 x2 xs2 (ix2 r k)
    = upRow x0 x1 x2 ⟨1024 + r.val - 8, by omega⟩ ⟨2304 + k.val, by omega⟩ := by
  unfold kernelRun0_B.sl.v775 kernelRun0_B.sl.HS1_40
  refine (read_rows _ 8 1024 _ _ _ _ _ _ r k (by omega)).trans ?_
  unfold upRow
  rw [dif_neg (by omega)]

  unfold_payloads
  simp only [View.readAt_eq_ld, harg1.read_unread, harg2.read_unread, harg3.read_unread, harg11.read_unread]
  pointwise
  simp only [B_h, Nat.zero_add]

theorem B_v786 (r : Fin 1024) (k : Fin 256) : kernelRun0_B.sl.v786 (F := Ideal) c arg1 harg1 arg2 harg2 arg3 harg3 arg9 arg10 arg11 harg11 x0 x1 x2 xs2 (ix2 r k)
    = back (fun r j => xs2 (ix2 r j)) (upRow x0 x1 x2) 6 (by decide) r ⟨2304 + k.val, by omega⟩ := by
  unfold kernelRun0_B.sl.v786 kernelRun0_B.sl.HS1_40
  refine (read_rows _ 1024 6 _ _ _ _ _ _ r k (by omega)).trans ?_
  unfold back upRow
  refine dite_congr rfl (fun h => ?_) (fun h => ?_)
  · unfold kernelRun0_B.sl.v768
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v792 (r : Fin 1024) (k : Fin 256) : kernelRun0_B.sl.v792 (F := Ideal) c arg1 harg1 arg2 harg2 arg3 harg3 arg9 arg10 arg11 harg11 x0 x1 x2 xs2 (ix2 r k)
    = back (fun r j => xs2 (ix2 r j)) (upRow x0 x1 x2) 7 (by decide) r ⟨2304 + k.val, by omega⟩ := by
  unfold kernelRun0_B.sl.v792 kernelRun0_B.sl.HS1_40
  refine (read_rows _ 1024 7 _ _ _ _ _ _ r k (by omega)).trans ?_
  unfold back upRow
  refine dite_congr rfl (fun h => ?_) (fun h => ?_)
  · unfold kernelRun0_B.sl.v768
    unfold_payloads
    simp only [View.readAt_eq_ld, harg1.read_unread, harg2.read_unread, harg3.read_unread, harg11.read_unread]
    pointwise
  · skip
    unfold_payloads
    simp only [View.readAt_eq_ld, harg1.read_unread, harg2.read_unread, harg3.read_unread, harg11.read_unread]
    pointwise
    simp only [B_h]

theorem B_v821 (r : Fin 8) (k : Fin 256) : kernelRun0_B.sl.v821 (F := Ideal) c arg1 harg1 arg2 harg2 arg3 harg3 arg9 arg10 arg11 harg11 x0 x1 x2 xs2 (ix2 r k)
    = upRow x0 x1 x2 ⟨1024 + r.val - 8, by omega⟩ ⟨5376 + k.val, by omega⟩ := by
  unfold kernelRun0_B.sl.v821 kernelRun0_B.sl.HS1_42
  refine (read_rows _ 8 1024 _ _ _ _ _ _ r k (by omega)).trans ?_
  unfold upRow
  rw [dif_neg (by omega)]
  unfold kernelRun0_B.sl.r_41
  unfold_payloads
  simp only [View.readAt_eq_ld, harg1.read_unread, harg2.read_unread, harg3.read_unread, harg11.read_unread]
  pointwise
  simp only [B_h, Nat.zero_add]

theorem B_v832 (r : Fin 1024) (k : Fin 256) : kernelRun0_B.sl.v832 (F := Ideal) c arg1 harg1 arg2 harg2 arg3 harg3 arg9 arg10 arg11 harg11 x0 x1 x2 xs2 (ix2 r k)
    = back (fun r j => xs2 (ix2 r j)) (upRow x0 x1 x2) 6 (by decide) r ⟨5376 + k.val, by omega⟩ := by
  unfold kernelRun0_B.sl.v832 kernelRun0_B.sl.HS1_42
  refine (read_rows _ 1024 6 _ _ _ _ _ _ r k (by omega)).trans ?_
  unfold back upRow
  refine dite_congr rfl (fun h => ?_) (fun h => ?_)
  · unfold kernelRun0_B.sl.v814
    unfold_payloads
    simp only [View.readAt_eq_ld, harg1.read_unread, harg2.read_unread, harg3.read_unread, harg11.read_unread]
    pointwise
  · unfold kernelRun0_B.sl.r_41
    unfold_payloads
    simp only [View.readAt_eq_ld, harg1.read_unread, harg2.read_unread, harg3.read_unread, harg11.read_unread]
    pointwise
    simp only [B_h]

theorem B_v838 (r : Fin 1024) (k : Fin 256) : kernelRun0_B.sl.v838 (F := Ideal) c arg1 harg1 arg2 harg2 arg3 harg3 arg9 arg10 arg11 harg11 x0 x1 x2 xs2 (ix2 r k)
    = back (fun r j => xs2 (ix2 r j)) (upRow x0 x1 x2) 7 (by decide) r ⟨5376 + k.val, by omega⟩ := by
  unfold kernelRun0_B.sl.v838 kernelRun0_B.sl.HS1_42
  refine (read_rows _ 1024 7 _ _ _ _ _ _ r k (by omega)).trans ?_
  unfold back upRow
  refine dite_congr rfl (fun h => ?_) (fun h => ?_)
  · unfold kernelRun0_B.sl.v814
    unfold_payloads
    simp only [View.readAt_eq_ld, harg1.read_unread, harg2.read_unread, harg3.read_unread, harg11.read_unread]
    pointwise
  · unfold kernelRun0_B.sl.r_41
    unfold_payloads
    simp only [View.readAt_eq_ld, harg1.read_unread, harg2.read_unread, harg3.read_unread, harg11.read_unread]
    pointwise
    simp only [B_h]

theorem B_v854 (r : Fin 8) (k : Fin 256) : kernelRun0_B.sl.v854 (F := Ideal) c arg1 harg1 arg2 harg2 arg3 harg3 arg9 arg10 arg11 harg11 x0 x1 x2 xs2 (ix2 r k)
    = upRow x0 x1 x2 ⟨1024 + r.val - 8, by omega⟩ ⟨2560 + k.val, by omega⟩ := by
  unfold kernelRun0_B.sl.v854 kernelRun0_B.sl.HS1_44
  refine (read_rows _ 8 1024 _ _ _ _ _ _ r k (by omega)).trans ?_
  unfold upRow
  rw [dif_neg (by omega)]
  unfold kernelRun0_B.sl.r_43
  unfold_payloads
  simp only [View.readAt_eq_ld, harg1.read_unread, harg2.read_unread, harg3.read_unread, harg11.read_unread]
  pointwise
  simp only [B_h, Nat.zero_add]

theorem B_v865 (r : Fin 1024) (k : Fin 256) : kernelRun0_B.sl.v865 (F := Ideal) c arg1 harg1 arg2 harg2 arg3 harg3 arg9 arg10 arg11 harg11 x0 x1 x2 xs2 (ix2 r k)
    = back (fun r j => xs2 (ix2 r j)) (upRow x0 x1 x2) 6 (by decide) r ⟨2560 + k.val, by omega⟩ := by
  unfold kernelRun0_B.sl.v865 kernelRun0_B.sl.HS1_44
  refine (read_rows _ 1024 6 _ _ _ _ _ _ r k (by omega)).trans ?_
  unfold back upRow
  refine dite_congr rfl (fun h => ?_) (fun h => ?_)
  · unfold kernelRun0_B.sl.v847
    unfold_payloads
    simp only [View.readAt_eq_ld, harg1.read_unread, harg2.read_unread, harg3.read_unread, harg11.read_unread]
    pointwise
  · unfold kernelRun0_B.sl.r_43
    unfold_payloads
    simp only [View.readAt_eq_ld, harg1.read_unread, harg2.read_unread, harg3.read_unread, harg11.read_unread]
    pointwise
    simp only [B_h]

theorem B_v871 (r : Fin 1024) (k : Fin 256) : kernelRun0_B.sl.v871 (F := Ideal) c arg1 harg1 arg2 harg2 arg3 harg3 arg9 arg10 arg11 harg11 x0 x1 x2 xs2 (ix2 r k)
    = back (fun r j => xs2 (ix2 r j)) (upRow x0 x1 x2) 7 (by decide) r ⟨2560 + k.val, by omega⟩ := by
  unfold kernelRun0_B.sl.v871 kernelRun0_B.sl.HS1_44
  refine (read_rows _ 1024 7 _ _ _ _ _ _ r k (by omega)).trans ?_
  unfold back upRow
  refine dite_congr rfl (fun h => ?_) (fun h => ?_)
  · unfold kernelRun0_B.sl.v847
    unfold_payloads
    simp only [View.readAt_eq_ld, harg1.read_unread, harg2.read_unread, harg3.read_unread, harg11.read_unread]
    pointwise
  · unfold kernelRun0_B.sl.r_43
    unfold_payloads
    simp only [View.readAt_eq_ld, harg1.read_unread, harg2.read_unread, harg3.read_unread, harg11.read_unread]
    pointwise
    simp only [B_h]

end Cert.Ffn

end
-- ==== Proof.FfnHiddenB.lean ====
module

public import proofs.«01_k».proof.Proof.FfnReadsB

@[expose] public section

set_option maxRecDepth 16384

noncomputable section

namespace Cert.Ffn

open Idealize.ShloMosaic Cert.KernelIdeal Cert.KernelIdeal.Gen

variable (c : Dev nD) (i : grid0.Coords)
  (arg1 : Memref sig .tc .vmem S1024x1024 .f32) (harg1 : arg1.IsWhole) (arg2 : Memref sig .tc .vmem S1x1024 .f32) (harg2 : arg2.IsWhole)
  (arg3 : Memref sig .tc .vmem S1024x5632 .bf16) (harg3 : arg3.IsWhole) (arg4 : Memref sig .tc .vmem S3x5632 .f32) (harg4 : arg4.IsWhole)
  (arg5 : Memref sig .tc .vmem S1x5632 .f32) (harg5 : arg5.IsWhole) (arg6 : Memref sig .tc .vmem S2816x1024 .bf16) (harg6 : arg6.IsWhole)
  (arg7 : Memref sig .tc .vmem S1x1024 .f32) (harg7 : arg7.IsWhole) (arg8 : Memref sig .tc .vmem S1024x1024 .f32) (harg8 : arg8.IsWhole)
  (arg9 : Memref sig .tc .vmem S1024x1024 .bf16) (harg9 : arg9.IsWhole) (arg10 : Memref sig .tc .vmem S1032x256 .f32) (harg10 : arg10.IsWhole)
  (arg11 : Memref sig .tc .vmem S8x5632 .f32) (harg11 : arg11.IsWhole) (arg12 : Memref sig .tc .vmem S1024x2816 .bf16) (harg12 : arg12.IsWhole)
  (x0 : Vec Ideal S1024x1024 .f32) (x1 : Vec Ideal S1x1024 .f32) (x2 : Vec Ideal S1024x5632 .bf16) (x3 : Vec Ideal S3x5632 .f32)
  (x4 : Vec Ideal S1x5632 .f32) (x5 : Vec Ideal S2816x1024 .bf16) (x6 : Vec Ideal S1x1024 .f32) (xs2 : Vec Ideal S8x5632 .f32)

theorem B_hid10 (r : Fin 1024) (k : Fin 256) : k0_pay132 (kernelRun0_B.sl.r_42 c arg1 harg1 arg2 harg2 arg3 harg3 arg4 harg4 arg5 harg5 arg9 arg10 arg11 harg11 x0 x1 x2 x3 x4 xs2) (kernelRun0_B.sl.r_44 c arg1 harg1 arg2 harg2 arg3 harg3 arg4 harg4 arg5 harg5 arg9 arg10 arg11 harg11 x0 x1 x2 x3 x4 xs2) (kernelRun0_B.sl.r_45 c arg1 harg1 arg2 harg2 arg3 harg3 arg4 harg4 arg5 harg5 arg9 arg10 arg11 harg11 x0 x1 x2 x3 x4 xs2) k0_pay131 (ix2 r k)
    = hidden (conv (fun r j => xs2 (ix2 r j)) (upRow x0 x1 x2) x3 x4) r ⟨2560 + k.val, by omega⟩ := by
  unfold kernelRun0_B.sl.r_42 kernelRun0_B.sl.r_44 kernelRun0_B.sl.r_45 kernelRun0_B.sl.r_41 kernelRun0_B.sl.r_43
  unfold_payloads
  unfold hidden gated conv
  simp only [View.readAt_eq_ld, harg1.read_unread, harg2.read_unread, harg3.read_unread, harg4.read_unread, harg5.read_unread, harg11.read_unread]
  pointwise
  simp only [B_v832, B_v838, B_v865, B_v871, B_h, upRow, Nat.zero_add, ← Nat.add_assoc, Nat.reduceAdd]

theorem B_hid9 (r : Fin 1024) (k : Fin 256) : k0_pay118 (kernelRun0_B.sl.r_38 c arg1 harg1 arg2 harg2 arg3 harg3 arg4 harg4 arg5 harg5 arg9 arg10 arg11 harg11 x0 x1 x2 x3 x4 xs2) (kernelRun0_B.sl.r_39 c arg1 harg1 arg2 harg2 arg3 harg3 arg9 x0 x1 x2) (kernelRun0_B.sl.r_40 c arg5 harg5 x4) (View.readAt (Elt Ideal) arg4.view (Rect.unit (s := S3x5632) ![2, 2304] S1x256.size inb_S3x5632_S1x256_2_2304).toLoadRect (harg4.unread x3)) (kernelRun0_B.sl.v786 c arg1 harg1 arg2 harg2 arg3 harg3 arg9 arg10 arg11 harg11 x0 x1 x2 xs2) (View.readAt (Elt Ideal) arg4.view (Rect.unit (s := S3x5632) ![0, 2304] S1x256.size inb_S3x5632_S1x256_0_2304).toLoadRect (harg4.unread x3)) (kernelRun0_B.sl.v792 c arg1 harg1 arg2 harg2 arg3 harg3 arg9 arg10 arg11 harg11 x0 x1 x2 xs2) (View.readAt (Elt Ideal) arg4.view (Rect.unit (s := S3x5632) ![1, 2304] S1x256.size inb_S3x5632_S1x256_1_2304).toLoadRect (harg4.unread x3)) (ix2 r k)
    = hidden (conv (fun r j => xs2 (ix2 r j)) (upRow x0 x1 x2) x3 x4) r ⟨2304 + k.val, by omega⟩ := by
  unfold kernelRun0_B.sl.r_38 kernelRun0_B.sl.r_39 kernelRun0_B.sl.r_40 kernelRun0_B.sl.r_35 kernelRun0_B.sl.r_36 kernelRun0_B.sl.r_37
  unfold_payloads
  unfold hidden gated conv
  simp only [View.readAt_eq_ld, harg1.read_unread, harg2.read_unread, harg3.read_unread, harg4.read_unread, harg5.read_unread, harg11.read_unread]
  pointwise
  simp only [B_v786, B_v792, B_v753, B_v759, B_h, upRow, Nat.zero_add, ← Nat.add_assoc, Nat.reduceAdd]

theorem B_hid8 (r : Fin 1024) (k : Fin 256) : k0_pay107 (kernelRun0_B.sl.r_32 c arg1 harg1 arg2 harg2 arg3 harg3 arg4 harg4 arg5 harg5 arg9 arg10 arg11 harg11 x0 x1 x2 x3 x4 xs2) (kernelRun0_B.sl.r_33 c arg1 harg1 arg2 harg2 arg3 harg3 arg4 harg4 arg5 harg5 arg9 arg10 arg11 harg11 x0 x1 x2 x3 x4 xs2) (kernelRun0_B.sl.r_34 c arg1 harg1 arg2 harg2 arg3 harg3 arg4 harg4 arg9 arg10 arg11 harg11 x0 x1 x2 x3 xs2) (ix2 r k)
    = hidden (conv (fun r j => xs2 (ix2 r j)) (upRow x0 x1 x2) x3 x4) r ⟨2048 + k.val, by omega⟩ := by
  unfold kernelRun0_B.sl.r_32 kernelRun0_B.sl.r_33 kernelRun0_B.sl.r_34
  unfold_payloads
  unfold hidden gated conv
  simp only [View.readAt_eq_ld, harg1.read_unread, harg2.read_unread, harg3.read_unread, harg4.read_unread, harg5.read_unread, harg11.read_unread]
  pointwise
  simp only [B_h, B_v674, B_v680, B_v707, B_v713, upRow, Nat.zero_add, ← Nat.add_assoc, Nat.reduceAdd]

theorem B_hid7 (r : Fin 1024) (k : Fin 256) : k0_pay95 (kernelRun0_B.sl.r_30 c arg1 harg1 arg2 harg2 arg3 harg3 arg4 harg4 arg5 harg5 arg9 arg10 arg11 harg11 x0 x1 x2 x3 x4 xs2) (kernelRun0_B.sl.r_31 c arg1 harg1 arg2 harg2 arg3 harg3 arg9 x0 x1 x2) (View.readAt (Elt Ideal) arg5.view (Rect.unit (s := S1x5632) ![0, 1792] S1x256.size inb_S1x5632_S1x256_0_1792).toLoadRect (harg5.unread x4)) (View.readAt (Elt Ideal) arg4.view (Rect.unit (s := S3x5632) ![2, 1792] S1x256.size inb_S3x5632_S1x256_2_1792).toLoadRect (harg4.unread x3)) (kernelRun0_B.sl.v628 c arg1 harg1 arg2 harg2 arg3 harg3 arg9 arg10 arg11 harg11 x0 x1 x2 xs2) (View.readAt (Elt Ideal) arg4.view (Rect.unit (s := S3x5632) ![0, 1792] S1x256.size inb_S3x5632_S1x256_0_1792).toLoadRect (harg4.unread x3)) (kernelRun0_B.sl.v634 c arg1 harg1 arg2 harg2 arg3 harg3 arg9 arg10 arg11 harg11 x0 x1 x2 xs2) (View.readAt (Elt Ideal) arg4.view (Rect.unit (s := S3x5632) ![1, 1792] S1x256.size inb_S3x5632_S1x256_1_1792).toLoadRect (harg4.unread x3)) (ix2 r k)
    = hidden (conv (fun r j => xs2 (ix2 r j)) (upRow x0 x1 x2) x3 x4) r ⟨1792 + k.val, by omega⟩ := by
  unfold kernelRun0_B.sl.r_30 kernelRun0_B.sl.r_31 kernelRun0_B.sl.r_29
  unfold_payloads
  unfold hidden gated conv
  simp only [View.readAt_eq_ld, harg1.read_unread, harg2.read_unread, harg3.read_unread, harg4.read_unread, harg5.read_unread, harg11.read_unread]
  pointwise
  simp only [B_v628, B_v634, B_v595, B_v601, B_h, upRow, Nat.zero_add, ← Nat.add_assoc, Nat.reduceAdd]

theorem B_hid6 (r : Fin 1024) (k : Fin 256) : k0_pay85 (kernelRun0_B.sl.r_26 c arg1 harg1 arg2 harg2 arg3 harg3 arg4 harg4 arg5 harg5 arg9 arg10 arg11 harg11 x0 x1 x2 x3 x4 xs2) (kernelRun0_B.sl.r_27 c arg1 harg1 arg2 harg2 arg3 harg3 arg4 harg4 arg5 harg5 arg9 x0 x1 x2 x3 x4) (kernelRun0_B.sl.r_28 c arg1 harg1 arg2 harg2 arg3 harg3 arg4 harg4 arg9 arg10 arg11 harg11 x0 x1 x2 x3 xs2) (kernelRun0_B.sl.v555 c arg1 harg1 arg2 harg2 arg3 harg3 arg9 arg10 arg11 harg11 x0 x1 x2 xs2) (View.readAt (Elt Ideal) arg4.view (Rect.unit (s := S3x5632) ![1, 1536] S1x256.size inb_S3x5632_S1x256_1_1536).toLoadRect (harg4.unread x3)) (ix2 r k)
    = hidden (conv (fun r j => xs2 (ix2 r j)) (upRow x0 x1 x2) x3 x4) r ⟨1536 + k.val, by omega⟩ := by
  unfold kernelRun0_B.sl.r_26 kernelRun0_B.sl.r_27 kernelRun0_B.sl.r_28 kernelRun0_B.sl.r_25
  unfold_payloads
  unfold hidden gated conv
  simp only [View.readAt_eq_ld, harg1.read_unread, harg2.read_unread, harg3.read_unread, harg4.read_unread, harg5.read_unread, harg11.read_unread]
  pointwise
  simp only [B_v555, B_v522, B_h, B_v549, B_v516, upRow, Nat.zero_add, ← Nat.add_assoc, Nat.reduceAdd]

theorem B_hid5 (r : Fin 1024) (k : Fin 256) : k0_pay72 (kernelRun0_B.sl.r_24 c arg1 harg1 arg2 harg2 arg3 harg3 arg4 harg4 arg5 harg5 arg9 arg10 arg11 harg11 x0 x1 x2 x3 x4 xs2) (ix2 r k)
    = hidden (conv (fun r j => xs2 (ix2 r j)) (upRow x0 x1 x2) x3 x4) r ⟨1280 + k.val, by omega⟩ := by
  unfold kernelRun0_B.sl.r_24 kernelRun0_B.sl.r_22 kernelRun0_B.sl.r_23 kernelRun0_B.sl.r_21
  unfold_payloads
  unfold hidden gated conv
  simp only [View.readAt_eq_ld, harg1.read_unread, harg2.read_unread, harg3.read_unread, harg4.read_unread, harg5.read_unread, harg11.read_unread]
  pointwise
  simp only [B_v470, B_v476, B_v437, B_v443, B_h, upRow, Nat.zero_add, ← Nat.add_assoc, Nat.reduceAdd]

theorem B_hid4 (r : Fin 1024) (k : Fin 256) : k0_pay61 (kernelRun0_B.sl.r_18 c arg1 harg1 arg2 harg2 arg3 harg3 arg4 harg4 arg5 harg5 arg9 arg10 arg11 harg11 x0 x1 x2 x3 x4 xs2) (kernelRun0_B.sl.r_19 c arg1 harg1 arg2 harg2 arg3 harg3 arg4 harg4 arg9 x0 x1 x2 x3) (kernelRun0_B.sl.r_20 c arg5 harg5 x4) (kernelRun0_B.sl.v391 c arg1 harg1 arg2 harg2 arg3 harg3 arg9 arg10 arg11 harg11 x0 x1 x2 xs2) (View.readAt (Elt Ideal) arg4.view (Rect.unit (s := S3x5632) ![0, 1024] S1x256.size inb_S3x5632_S1x256_0_1024).toLoadRect (harg4.unread x3)) (kernelRun0_B.sl.v397 c arg1 harg1 arg2 harg2 arg3 harg3 arg9 arg10 arg11 harg11 x0 x1 x2 xs2) (View.readAt (Elt Ideal) arg4.view (Rect.unit (s := S3x5632) ![1, 1024] S1x256.size inb_S3x5632_S1x256_1_1024).toLoadRect (harg4.unread x3)) (ix2 r k)
    = hidden (conv (fun r j => xs2 (ix2 r j)) (upRow x0 x1 x2) x3 x4) r ⟨1024 + k.val, by omega⟩ := by
  unfold kernelRun0_B.sl.r_18 kernelRun0_B.sl.r_19 kernelRun0_B.sl.r_20 kernelRun0_B.sl.r_17
  unfold_payloads
  unfold hidden gated conv
  simp only [View.readAt_eq_ld, harg1.read_unread, harg2.read_unread, harg3.read_unread, harg4.read_unread, harg5.read_unread, harg11.read_unread]
  pointwise
  simp only [B_v391, B_v397, B_v358, B_v364, B_h, upRow, Nat.zero_add, ← Nat.add_assoc, Nat.reduceAdd]

theorem B_hid3 (r : Fin 1024) (k : Fin 256) : k0_pay48 (kernelRun0_B.sl.r_13 c arg1 harg1 arg2 harg2 arg3 harg3 arg4 harg4 arg5 harg5 arg9 arg10 arg11 harg11 x0 x1 x2 x3 x4 xs2) (kernelRun0_B.sl.r_15 c arg1 harg1 arg2 harg2 arg3 harg3 arg4 harg4 arg5 harg5 arg9 arg10 arg11 harg11 x0 x1 x2 x3 x4 xs2) (kernelRun0_B.sl.r_16 c arg1 harg1 arg2 harg2 arg3 harg3 arg4 harg4 arg5 harg5 arg9 arg10 arg11 harg11 x0 x1 x2 x3 x4 xs2) kernelRun0_B.sl.cst_227 (ix2 r k)
    = hidden (conv (fun r j => xs2 (ix2 r j)) (upRow x0 x1 x2) x3 x4) r ⟨768 + k.val, by omega⟩ := by
  unfold kernelRun0_B.sl.r_13 kernelRun0_B.sl.r_15 kernelRun0_B.sl.r_16 kernelRun0_B.sl.cst_227 kernelRun0_B.sl.r_12 kernelRun0_B.sl.r_14 kernelRun0_B.sl.cst_203
  unfold_payloads
  unfold hidden gated conv
  simp only [View.readAt_eq_ld, harg1.read_unread, harg2.read_unread, harg3.read_unread, harg4.read_unread, harg5.read_unread, harg11.read_unread]
  pointwise
  simp only [B_v279, B_v285, B_h, B_v312, B_v318, upRow, Nat.zero_add, ← Nat.add_assoc, Nat.reduceAdd]

theorem B_hid2 (r : Fin 1024) (k : Fin 256) : k0_pay36 (kernelRun0_B.sl.r_10 c arg1 harg1 arg2 harg2 arg3 harg3 arg4 harg4 arg5 harg5 arg9 arg10 arg11 harg11 x0 x1 x2 x3 x4 xs2) (kernelRun0_B.sl.r_11 c arg1 harg1 arg2 harg2 arg3 harg3 arg9 x0 x1 x2) (View.readAt (Elt Ideal) arg5.view (Rect.unit (s := S1x5632) ![0, 512] S1x256.size inb_S1x5632_S1x256_0_512).toLoadRect (harg5.unread x4)) (View.readAt (Elt Ideal) arg4.view (Rect.unit (s := S3x5632) ![2, 512] S1x256.size inb_S3x5632_S1x256_2_512).toLoadRect (harg4.unread x3)) (kernelRun0_B.sl.v233 c arg1 harg1 arg2 harg2 arg3 harg3 arg9 arg10 arg11 harg11 x0 x1 x2 xs2) (View.readAt (Elt Ideal) arg4.view (Rect.unit (s := S3x5632) ![0, 512] S1x256.size inb_S3x5632_S1x256_0_512).toLoadRect (harg4.unread x3)) (kernelRun0_B.sl.v239 c arg1 harg1 arg2 harg2 arg3 harg3 arg9 arg10 arg11 harg11 x0 x1 x2 xs2) (View.readAt (Elt Ideal) arg4.view (Rect.unit (s := S3x5632) ![1, 512] S1x256.size inb_S3x5632_S1x256_1_512).toLoadRect (harg4.unread x3)) (ix2 r k)
    = hidden (conv (fun r j => xs2 (ix2 r j)) (upRow x0 x1 x2) x3 x4) r ⟨512 + k.val, by omega⟩ := by
  unfold kernelRun0_B.sl.r_10 kernelRun0_B.sl.r_11 kernelRun0_B.sl.r_8 kernelRun0_B.sl.r_9
  unfold_payloads
  unfold hidden gated conv
  simp only [View.readAt_eq_ld, harg1.read_unread, harg2.read_unread, harg3.read_unread, harg4.read_unread, harg5.read_unread, harg11.read_unread]
  pointwise
  simp only [B_v233, B_v239, B_v200, B_v206, B_h, upRow, Nat.zero_add, ← Nat.add_assoc, Nat.reduceAdd]

theorem B_hid1 (r : Fin 1024) (k : Fin 256) : k0_pay26 (kernelRun0_B.sl.r_6 c arg1 harg1 arg2 harg2 arg3 harg3 arg4 harg4 arg5 harg5 arg9 arg10 arg11 harg11 x0 x1 x2 x3 x4 xs2) (kernelRun0_B.sl.r_7 c arg1 harg1 arg2 harg2 arg3 harg3 arg4 harg4 arg5 harg5 arg9 arg10 arg11 harg11 x0 x1 x2 x3 x4 xs2) (kernelRun0_B.sl.v160 c arg1 harg1 arg2 harg2 arg3 harg3 arg9 arg10 arg11 harg11 x0 x1 x2 xs2) (View.readAt (Elt Ideal) arg4.view (Rect.unit (s := S3x5632) ![1, 256] S1x256.size inb_S3x5632_S1x256_1_256).toLoadRect (harg4.unread x3)) (ix2 r k)
    = hidden (conv (fun r j => xs2 (ix2 r j)) (upRow x0 x1 x2) x3 x4) r ⟨256 + k.val, by omega⟩ := by
  unfold kernelRun0_B.sl.r_6 kernelRun0_B.sl.r_7 kernelRun0_B.sl.r_4 kernelRun0_B.sl.r_5
  unfold_payloads
  unfold hidden gated conv
  simp only [View.readAt_eq_ld, harg1.read_unread, harg2.read_unread, harg3.read_unread, harg4.read_unread, harg5.read_unread, harg11.read_unread]
  pointwise
  simp only [B_v160, B_v127, B_h, B_v154, B_v121, upRow, Nat.zero_add, ← Nat.add_assoc, Nat.reduceAdd]

theorem B_hid0 (r : Fin 1024) (k : Fin 256) : k0_pay13 (kernelRun0_B.sl.r_1 c arg1 harg1 arg2 harg2 arg3 harg3 arg4 harg4 arg5 harg5 arg9 arg10 arg11 harg11 x0 x1 x2 x3 x4 xs2) (kernelRun0_B.sl.r_2 c arg1 harg1 arg2 harg2 arg3 harg3 arg9 x0 x1 x2) (View.readAt (Elt Ideal) arg5.view (Rect.unit (s := S1x5632) ![0, 0] S1x256.size inb_S1x5632_S1x256_0_0).toLoadRect (harg5.unread x4)) (View.readAt (Elt Ideal) arg4.view (Rect.unit (s := S3x5632) ![2, 0] S1x256.size inb_S3x5632_S1x256_2_0).toLoadRect (harg4.unread x3)) (kernelRun0_B.sl.v75 c arg1 harg1 arg2 harg2 arg3 harg3 arg9 arg10 arg11 harg11 x0 x1 x2 xs2) (View.readAt (Elt Ideal) arg4.view (Rect.unit (s := S3x5632) ![0, 0] S1x256.size inb_S3x5632_S1x256_0_0).toLoadRect (harg4.unread x3)) (kernelRun0_B.sl.v81 c arg1 harg1 arg2 harg2 arg3 harg3 arg9 arg10 arg11 harg11 x0 x1 x2 xs2) (View.readAt (Elt Ideal) arg4.view (Rect.unit (s := S3x5632) ![1, 0] S1x256.size inb_S3x5632_S1x256_1_0).toLoadRect (harg4.unread x3)) (ix2 r k)
    = hidden (conv (fun r j => xs2 (ix2 r j)) (upRow x0 x1 x2) x3 x4) r ⟨0 + k.val, by omega⟩ := by
  unfold kernelRun0_B.sl.r_1 kernelRun0_B.sl.r_2 kernelRun0_B.sl.r
  unfold_payloads
  unfold hidden gated conv
  simp only [View.readAt_eq_ld, harg1.read_unread, harg2.read_unread, harg3.read_unread, harg4.read_unread, harg5.read_unread, harg11.read_unread]
  pointwise
  simp only [B_v75, B_v81, B_v42, B_v48, B_h, upRow, Nat.zero_add, ← Nat.add_assoc, Nat.reduceAdd]

end Cert.Ffn

end
-- ==== Proof.FfnOutB.lean ====
module

public import proofs.«01_k».proof.Proof.FfnHiddenB

@[expose] public section

set_option maxRecDepth 16384

noncomputable section

namespace Cert.Ffn

open Idealize.ShloMosaic Idealize.ShloMosaic.Tactic Cert.KernelIdeal Cert.KernelIdeal.Gen

variable (c : Dev nD) (i : grid0.Coords)
  (arg1 : Memref sig .tc .vmem S1024x1024 .f32) (harg1 : arg1.IsWhole) (arg2 : Memref sig .tc .vmem S1x1024 .f32) (harg2 : arg2.IsWhole)
  (arg3 : Memref sig .tc .vmem S1024x5632 .bf16) (harg3 : arg3.IsWhole) (arg4 : Memref sig .tc .vmem S3x5632 .f32) (harg4 : arg4.IsWhole)
  (arg5 : Memref sig .tc .vmem S1x5632 .f32) (harg5 : arg5.IsWhole) (arg6 : Memref sig .tc .vmem S2816x1024 .bf16) (harg6 : arg6.IsWhole)
  (arg7 : Memref sig .tc .vmem S1x1024 .f32) (harg7 : arg7.IsWhole) (arg8 : Memref sig .tc .vmem S1024x1024 .f32) (harg8 : arg8.IsWhole)
  (arg9 : Memref sig .tc .vmem S1024x1024 .bf16) (harg9 : arg9.IsWhole) (arg10 : Memref sig .tc .vmem S1032x256 .f32) (harg10 : arg10.IsWhole)
  (arg11 : Memref sig .tc .vmem S8x5632 .f32) (harg11 : arg11.IsWhole) (arg12 : Memref sig .tc .vmem S1024x2816 .bf16) (harg12 : arg12.IsWhole)
  (x0 : Vec Ideal S1024x1024 .f32) (x1 : Vec Ideal S1x1024 .f32) (x2 : Vec Ideal S1024x5632 .bf16) (x3 : Vec Ideal S3x5632 .f32)
  (x4 : Vec Ideal S1x5632 .f32) (x5 : Vec Ideal S2816x1024 .bf16) (x6 : Vec Ideal S1x1024 .f32) (xs2 : Vec Ideal S8x5632 .f32)

theorem B_pieces : View.PiecesOf (Val := Elt Ideal) (e := .bf16) (fun y : S1024x2816.Idx => hidden (conv (fun r j => xs2 (ix2 r j)) (upRow x0 x1 x2) x3 x4) (y 0) (y 1))
    (kernelRun0_B.sl.HS3_11 (F := Ideal) c arg1 harg1 arg2 harg2 arg3 harg3 arg4 harg4 arg5 harg5 arg9 arg10 arg11 harg11 x0 x1 x2 x3 x4 xs2) := by
  unfold kernelRun0_B.sl.HS3_11
  refine ⟨?_, ?_, ?_, ?_, ?_, ?_, ?_, ?_, ?_, ?_, ?_, trivial⟩
  · refine piece_of (Val := Elt Ideal) (e := .bf16) (R := 1024) (C := 2816) (n := 1024) (m := 256) (o1 := 0) (o2 := 2560) (hidden (conv (fun r j => xs2 (ix2 r j)) (upRow x0 x1 x2) x3 x4)) inb_S1024x2816_S1024x256_0_2560 _ fun r k hr hk => (B_hid10 ..).trans ?_
    simp only [Nat.zero_add]
  · refine piece_of (Val := Elt Ideal) (e := .bf16) (R := 1024) (C := 2816) (n := 1024) (m := 256) (o1 := 0) (o2 := 2304) (hidden (conv (fun r j => xs2 (ix2 r j)) (upRow x0 x1 x2) x3 x4)) inb_S1024x2816_S1024x256_0_2304 _ fun r k hr hk => (B_hid9 ..).trans ?_
    simp only [Nat.zero_add]
  · refine piece_of (Val := Elt Ideal) (e := .bf16) (R := 1024) (C := 2816) (n := 1024) (m := 256) (o1 := 0) (o2 := 2048) (hidden (conv (fun r j => xs2 (ix2 r j)) (upRow x0 x1 x2) x3 x4)) inb_S1024x2816_S1024x256_0_2048 _ fun r k hr hk => (B_hid8 ..).trans ?_
    simp only [Nat.zero_add]
  · refine piece_of (Val := Elt Ideal) (e := .bf16) (R := 1024) (C := 2816) (n := 1024) (m := 256) (o1 := 0) (o2 := 1792) (hidden (conv (fun r j => xs2 (ix2 r j)) (upRow x0 x1 x2) x3 x4)) inb_S1024x2816_S1024x256_0_1792 _ fun r k hr hk => (B_hid7 ..).trans ?_
    simp only [Nat.zero_add]
  · refine piece_of (Val := Elt Ideal) (e := .bf16) (R := 1024) (C := 2816) (n := 1024) (m := 256) (o1 := 0) (o2 := 1536) (hidden (conv (fun r j => xs2 (ix2 r j)) (upRow x0 x1 x2) x3 x4)) inb_S1024x2816_S1024x256_0_1536 _ fun r k hr hk => (B_hid6 ..).trans ?_
    simp only [Nat.zero_add]
  · refine piece_of (Val := Elt Ideal) (e := .bf16) (R := 1024) (C := 2816) (n := 1024) (m := 256) (o1 := 0) (o2 := 1280) (hidden (conv (fun r j => xs2 (ix2 r j)) (upRow x0 x1 x2) x3 x4)) inb_S1024x2816_S1024x256_0_1280 _ fun r k hr hk => (B_hid5 ..).trans ?_
    simp only [Nat.zero_add]
  · refine piece_of (Val := Elt Ideal) (e := .bf16) (R := 1024) (C := 2816) (n := 1024) (m := 256) (o1 := 0) (o2 := 1024) (hidden (conv (fun r j => xs2 (ix2 r j)) (upRow x0 x1 x2) x3 x4)) inb_S1024x2816_S1024x256_0_1024 _ fun r k hr hk => (B_hid4 ..).trans ?_
    simp only [Nat.zero_add]
  · refine piece_of (Val := Elt Ideal) (e := .bf16) (R := 1024) (C := 2816) (n := 1024) (m := 256) (o1 := 0) (o2 := 768) (hidden (conv (fun r j => xs2 (ix2 r j)) (upRow x0 x1 x2) x3 x4)) inb_S1024x2816_S1024x256_0_768 _ fun r k hr hk => (B_hid3 ..).trans ?_
    simp only [Nat.zero_add]
  · refine piece_of (Val := Elt Ideal) (e := .bf16) (R := 1024) (C := 2816) (n := 1024) (m := 256) (o1 := 0) (o2 := 512) (hidden (conv (fun r j => xs2 (ix2 r j)) (upRow x0 x1 x2) x3 x4)) inb_S1024x2816_S1024x256_0_512 _ fun r k hr hk => (B_hid2 ..).trans ?_
    simp only [Nat.zero_add]
  · refine piece_of (Val := Elt Ideal) (e := .bf16) (R := 1024) (C := 2816) (n := 1024) (m := 256) (o1 := 0) (o2 := 256) (hidden (conv (fun r j => xs2 (ix2 r j)) (upRow x0 x1 x2) x3 x4)) inb_S1024x2816_S1024x256_0_256 _ fun r k hr hk => (B_hid1 ..).trans ?_
    simp only [Nat.zero_add]
  · refine piece_of (Val := Elt Ideal) (e := .bf16) (R := 1024) (C := 2816) (n := 1024) (m := 256) (o1 := 0) (o2 := 0) (hidden (conv (fun r j => xs2 (ix2 r j)) (upRow x0 x1 x2) x3 x4)) inb_S1024x2816_S1024x256_0_0 _ fun r k hr hk => (B_hid0 ..).trans ?_
    simp only [Nat.zero_add]

theorem B_cover (y : S1024x2816.Idx) : ∃ p ∈ kernelRun0_B.sl.HS3_11 (F := Ideal) c arg1 harg1 arg2 harg2 arg3 harg3 arg4 harg4 arg5 harg5 arg9 arg10 arg11 harg11 x0 x1 x2 x3 x4 xs2, y ∈ p.1.set :=
  View.cover_of_tiledL (s := S1024x2816) (kernelRun0_B.sl.HS3_11 (F := Ideal) c arg1 harg1 arg2 harg2 arg3 harg3 arg4 harg4 arg5 harg5 arg9 arg10 arg11 harg11 x0 x1 x2 x3 x4 xs2) S1024x256.size (by sl_kernel_rfl) y

theorem B_v891 (r : Fin 256) (j : Fin 2816) : kernelRun0_B.sl.v891 (F := Ideal) c arg1 harg1 arg2 harg2 arg3 harg3 arg4 harg4 arg5 harg5 arg9 arg10 arg11 harg11 arg12 x0 x1 x2 x3 x4 xs2 (ix2 r j)
    = hidden (conv (fun r j => xs2 (ix2 r j)) (upRow x0 x1 x2) x3 x4) ⟨0 + r.val, by omega⟩ j := by
  unfold kernelRun0_B.sl.v891
  exact read_mat (Val := Elt Ideal) (e := .bf16) (R := 1024) (C := 2816) (n := 256) (q := 0) _ (hidden (conv (fun r j => xs2 (ix2 r j)) (upRow x0 x1 x2) x3 x4)) _ (B_pieces ..)
    (fun y => B_cover (y := y) ..) _ r j (by omega)

theorem B_v911 (r : Fin 256) (j : Fin 2816) : kernelRun0_B.sl.v911 (F := Ideal) c arg1 harg1 arg2 harg2 arg3 harg3 arg4 harg4 arg5 harg5 arg9 arg10 arg11 harg11 arg12 x0 x1 x2 x3 x4 xs2 (ix2 r j)
    = hidden (conv (fun r j => xs2 (ix2 r j)) (upRow x0 x1 x2) x3 x4) ⟨256 + r.val, by omega⟩ j := by
  unfold kernelRun0_B.sl.v911
  exact read_mat (Val := Elt Ideal) (e := .bf16) (R := 1024) (C := 2816) (n := 256) (q := 256) _ (hidden (conv (fun r j => xs2 (ix2 r j)) (upRow x0 x1 x2) x3 x4)) _ (B_pieces ..)
    (fun y => B_cover (y := y) ..) _ r j (by omega)

theorem B_v931 (r : Fin 256) (j : Fin 2816) : kernelRun0_B.sl.v931 (F := Ideal) c arg1 harg1 arg2 harg2 arg3 harg3 arg4 harg4 arg5 harg5 arg9 arg10 arg11 harg11 arg12 x0 x1 x2 x3 x4 xs2 (ix2 r j)
    = hidden (conv (fun r j => xs2 (ix2 r j)) (upRow x0 x1 x2) x3 x4) ⟨512 + r.val, by omega⟩ j := by
  unfold kernelRun0_B.sl.v931
  exact read_mat (Val := Elt Ideal) (e := .bf16) (R := 1024) (C := 2816) (n := 256) (q := 512) _ (hidden (conv (fun r j => xs2 (ix2 r j)) (upRow x0 x1 x2) x3 x4)) _ (B_pieces ..)
    (fun y => B_cover (y := y) ..) _ r j (by omega)

theorem B_v951 (r : Fin 256) (j : Fin 2816) : kernelRun0_B.sl.v951 (F := Ideal) c arg1 harg1 arg2 harg2 arg3 harg3 arg4 harg4 arg5 harg5 arg9 arg10 arg11 harg11 arg12 x0 x1 x2 x3 x4 xs2 (ix2 r j)
    = hidden (conv (fun r j => xs2 (ix2 r j)) (upRow x0 x1 x2) x3 x4) ⟨768 + r.val, by omega⟩ j := by
  unfold kernelRun0_B.sl.v951
  exact read_mat (Val := Elt Ideal) (e := .bf16) (R := 1024) (C := 2816) (n := 256) (q := 768) _ (hidden (conv (fun r j => xs2 (ix2 r j)) (upRow x0 x1 x2) x3 x4)) _ (B_pieces ..)
    (fun y => B_cover (y := y) ..) _ r j (by omega)

theorem B_out768 (r : Fin 256) (k : Fin 1024) : k0_pay1 (kernelRun0_B.sl.r_48 c arg1 harg1 x0) (kernelRun0_B.sl.v951 c arg1 harg1 arg2 harg2 arg3 harg3 arg4 harg4 arg5 harg5 arg9 arg10 arg11 harg11 arg12 x0 x1 x2 x3 x4 xs2) (View.readAt (Elt Ideal) arg6.view (Rect.unit (s := S2816x1024) ![0, 0] ![2816, 1024] inb_S2816x1024_S2816x1024_0_0).toLoadRect (harg6.unread x5)) (View.readAt (Elt Ideal) arg7.view (Rect.unit (s := S1x1024) ![0, 0] ![1, 1024] inb_S1x1024_S1x1024_0_0).toLoadRect (harg7.unread x6)) (ix2 r k)
    = ffnOut (fun r j => xs2 (ix2 r j)) x0 x1 x2 x3 x4 x5 x6 ⟨768 + r.val, by omega⟩ k := by
  unfold kernelRun0_B.sl.r_48
  unfold_payloads
  unfold ffnOut outRow rms
  simp only [View.readAt_eq_ld, harg1.read_unread, harg6.read_unread, harg7.read_unread]
  pointwise
  simp only [B_v951, Nat.zero_add]

theorem B_out512 (r : Fin 256) (k : Fin 1024) : k0_pay136 (View.readAt (Elt Ideal) arg1.view (Rect.unit (s := S1024x1024) ![512, 0] S256x1024.size inb_S1024x1024_S256x1024_512_0).toLoadRect (harg1.unread x0)) (kernelRun0_B.sl.v931 c arg1 harg1 arg2 harg2 arg3 harg3 arg4 harg4 arg5 harg5 arg9 arg10 arg11 harg11 arg12 x0 x1 x2 x3 x4 xs2) (View.readAt (Elt Ideal) arg6.view (Rect.unit (s := S2816x1024) ![0, 0] S2816x1024.size inb_S2816x1024_S2816x1024_0_0).toLoadRect (harg6.unread x5)) (View.readAt (Elt Ideal) arg7.view (Rect.unit (s := S1x1024) ![0, 0] S1x1024.size inb_S1x1024_S1x1024_0_0).toLoadRect (harg7.unread x6)) (ix2 r k)
    = ffnOut (fun r j => xs2 (ix2 r j)) x0 x1 x2 x3 x4 x5 x6 ⟨512 + r.val, by omega⟩ k := by
  skip
  unfold_payloads
  unfold ffnOut outRow rms
  simp only [View.readAt_eq_ld, harg1.read_unread, harg6.read_unread, harg7.read_unread]
  pointwise
  simp only [B_v931, Nat.zero_add]

theorem B_out256 (r : Fin 256) (k : Fin 1024) : k0_pay135 (kernelRun0_B.sl.r_46 c arg1 harg1 arg2 harg2 arg3 harg3 arg4 harg4 arg5 harg5 arg6 harg6 arg9 arg10 arg11 harg11 arg12 x0 x1 x2 x3 x4 x5 xs2) (kernelRun0_B.sl.r_47 c arg7 harg7 x6) (ix2 r k)
    = ffnOut (fun r j => xs2 (ix2 r j)) x0 x1 x2 x3 x4 x5 x6 ⟨256 + r.val, by omega⟩ k := by
  unfold kernelRun0_B.sl.r_46 kernelRun0_B.sl.r_47
  unfold_payloads
  unfold ffnOut outRow rms
  simp only [View.readAt_eq_ld, harg1.read_unread, harg6.read_unread, harg7.read_unread]
  pointwise
  simp only [B_v911, Nat.zero_add]

theorem B_out0 (r : Fin 256) (k : Fin 1024) : k0_pay133 (View.readAt (Elt Ideal) arg1.view (Rect.unit (s := S1024x1024) ![0, 0] S256x1024.size inb_S1024x1024_S256x1024_0_0).toLoadRect (harg1.unread x0)) (kernelRun0_B.sl.v891 c arg1 harg1 arg2 harg2 arg3 harg3 arg4 harg4 arg5 harg5 arg9 arg10 arg11 harg11 arg12 x0 x1 x2 x3 x4 xs2) (View.readAt (Elt Ideal) arg6.view (Rect.unit (s := S2816x1024) ![0, 0] S2816x1024.size inb_S2816x1024_S2816x1024_0_0).toLoadRect (harg6.unread x5)) (View.readAt (Elt Ideal) arg7.view (Rect.unit (s := S1x1024) ![0, 0] S1x1024.size inb_S1x1024_S1x1024_0_0).toLoadRect (harg7.unread x6)) (ix2 r k)
    = ffnOut (fun r j => xs2 (ix2 r j)) x0 x1 x2 x3 x4 x5 x6 ⟨0 + r.val, by omega⟩ k := by
  skip
  unfold_payloads
  unfold ffnOut outRow rms
  simp only [View.readAt_eq_ld, harg1.read_unread, harg6.read_unread, harg7.read_unread]
  pointwise
  simp only [B_v891, Nat.zero_add]

/-- What the call leaves in the result's block at a point after the first. -/
theorem B_out (hc0 : ¬cond0_0 i) (r k : Fin 1024) : out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs2 (ix2 r k)
    = ffnOut (fun r j => xs2 (ix2 r j)) x0 x1 x2 x3 x4 x5 x6 r k := by
  unfold out0_B_7
  have hp : View.PiecesOf (Val := Elt Ideal) (e := .f32) (fun y : S1024x1024.Idx => ffnOut (fun r j => xs2 (ix2 r j)) x0 x1 x2 x3 x4 x5 x6 (y 0) (y 1))
      (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs2).1 := ?_
  · exact View.read_writes_apply_of_pieces (Val := Elt Ideal) (e := .f32) _ _
      (fun y : S1024x1024.Idx => ffnOut (fun r j => xs2 (ix2 r j)) x0 x1 x2 x3 x4 x5 x6 (y 0) (y 1)) _ hp.mem _ (cover0_B_7 ..)
  unfold kernelRun0_B
  dsimp only
  refine ⟨?_, ?_, ?_, ?_, trivial⟩
  · exact piece_of (Val := Elt Ideal) (e := .f32) (R := 1024) (C := 1024) (n := 256) (m := 1024) (o1 := 768) (o2 := 0) (ffnOut (fun r j => xs2 (ix2 r j)) x0 x1 x2 x3 x4 x5 x6) inb_S1024x1024_S256x1024_768_0 _ fun r k hr hk =>
      (B_out768 ..).trans (by simp only [Nat.zero_add])
  · exact piece_of (Val := Elt Ideal) (e := .f32) (R := 1024) (C := 1024) (n := 256) (m := 1024) (o1 := 512) (o2 := 0) (ffnOut (fun r j => xs2 (ix2 r j)) x0 x1 x2 x3 x4 x5 x6) inb_S1024x1024_S256x1024_512_0 _ fun r k hr hk =>
      (B_out512 ..).trans (by simp only [Nat.zero_add])
  · exact piece_of (Val := Elt Ideal) (e := .f32) (R := 1024) (C := 1024) (n := 256) (m := 1024) (o1 := 256) (o2 := 0) (ffnOut (fun r j => xs2 (ix2 r j)) x0 x1 x2 x3 x4 x5 x6) inb_S1024x1024_S256x1024_256_0 _ fun r k hr hk =>
      (B_out256 ..).trans (by simp only [Nat.zero_add])
  · exact piece_of (Val := Elt Ideal) (e := .f32) (R := 1024) (C := 1024) (n := 256) (m := 1024) (o1 := 0) (o2 := 0) (ffnOut (fun r j => xs2 (ix2 r j)) x0 x1 x2 x3 x4 x5 x6) inb_S1024x1024_S256x1024_0_0 _ fun r k hr hk =>
      (B_out0 ..).trans (by simp only [Nat.zero_add])

/-- What the call leaves in the carried rows at a point after the first: the tile's last eight rows, up-projected. -/
theorem B_tail (hc0 : ¬cond0_0 i) (r : Fin 8) (j : Fin 5632) : sout0_B_2 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs2 (ix2 r j)
    = upRow x0 x1 x2 ⟨1024 + r.val - 8, by omega⟩ j := by
  unfold sout0_B_2
  rw [View.read_writes_junk_apply_eq_canon]
  refine canon_take (Val := Elt Ideal) (e := .f32) (fun y : S8x5632.Idx => (fun (r : Fin 8) j => upRow x0 x1 x2 ⟨1024 + r.val - 8, by omega⟩ j) (y 0) (y 1)) _ 22 _ ?_ ?_
  · unfold kernelRun0_B
    dsimp only
    skip
    refine ⟨?_, ?_, ?_, ?_, ?_, ?_, ?_, ?_, ?_, ?_, ?_, ?_, ?_, ?_, ?_, ?_, ?_, ?_, ?_, ?_, ?_, ?_, trivial⟩
    · refine piece_of (Val := Elt Ideal) (e := .f32) (R := 8) (C := 5632) (n := 8) (m := 256) (o1 := 0) (o2 := 2560) (fun (r : Fin 8) j => upRow x0 x1 x2 ⟨1024 + r.val - 8, by omega⟩ j) inb_S8x5632_S8x256_0_2560 _ fun r k hr hk => ?_
      unfold_payloads
      pointwise
      simp only [B_v854, Nat.zero_add]
    · refine piece_of (Val := Elt Ideal) (e := .f32) (R := 8) (C := 5632) (n := 8) (m := 256) (o1 := 0) (o2 := 5376) (fun (r : Fin 8) j => upRow x0 x1 x2 ⟨1024 + r.val - 8, by omega⟩ j) inb_S8x5632_S8x256_0_5376 _ fun r k hr hk => ?_
      unfold_payloads
      pointwise
      simp only [B_v821, Nat.zero_add]
    · refine piece_of (Val := Elt Ideal) (e := .f32) (R := 8) (C := 5632) (n := 8) (m := 256) (o1 := 0) (o2 := 2304) (fun (r : Fin 8) j => upRow x0 x1 x2 ⟨1024 + r.val - 8, by omega⟩ j) inb_S8x5632_S8x256_0_2304 _ fun r k hr hk => ?_
      unfold_payloads
      pointwise
      simp only [B_v775, Nat.zero_add]
    · refine piece_of (Val := Elt Ideal) (e := .f32) (R := 8) (C := 5632) (n := 8) (m := 256) (o1 := 0) (o2 := 5120) (fun (r : Fin 8) j => upRow x0 x1 x2 ⟨1024 + r.val - 8, by omega⟩ j) inb_S8x5632_S8x256_0_5120 _ fun r k hr hk => ?_
      unfold_payloads
      pointwise
      simp only [B_v742, Nat.zero_add]
    · refine piece_of (Val := Elt Ideal) (e := .f32) (R := 8) (C := 5632) (n := 8) (m := 256) (o1 := 0) (o2 := 2048) (fun (r : Fin 8) j => upRow x0 x1 x2 ⟨1024 + r.val - 8, by omega⟩ j) inb_S8x5632_S8x256_0_2048 _ fun r k hr hk => ?_
      unfold_payloads
      pointwise
      simp only [B_v696, Nat.zero_add]
    · refine piece_of (Val := Elt Ideal) (e := .f32) (R := 8) (C := 5632) (n := 8) (m := 256) (o1 := 0) (o2 := 4864) (fun (r : Fin 8) j => upRow x0 x1 x2 ⟨1024 + r.val - 8, by omega⟩ j) inb_S8x5632_S8x256_0_4864 _ fun r k hr hk => ?_
      unfold_payloads
      pointwise
      simp only [B_v663, Nat.zero_add]
    · refine piece_of (Val := Elt Ideal) (e := .f32) (R := 8) (C := 5632) (n := 8) (m := 256) (o1 := 0) (o2 := 1792) (fun (r : Fin 8) j => upRow x0 x1 x2 ⟨1024 + r.val - 8, by omega⟩ j) inb_S8x5632_S8x256_0_1792 _ fun r k hr hk => ?_
      unfold_payloads
      pointwise
      simp only [B_v617, Nat.zero_add]
    · refine piece_of (Val := Elt Ideal) (e := .f32) (R := 8) (C := 5632) (n := 8) (m := 256) (o1 := 0) (o2 := 4608) (fun (r : Fin 8) j => upRow x0 x1 x2 ⟨1024 + r.val - 8, by omega⟩ j) inb_S8x5632_S8x256_0_4608 _ fun r k hr hk => ?_
      unfold_payloads
      pointwise
      simp only [B_v584, Nat.zero_add]
    · refine piece_of (Val := Elt Ideal) (e := .f32) (R := 8) (C := 5632) (n := 8) (m := 256) (o1 := 0) (o2 := 1536) (fun (r : Fin 8) j => upRow x0 x1 x2 ⟨1024 + r.val - 8, by omega⟩ j) inb_S8x5632_S8x256_0_1536 _ fun r k hr hk => ?_
      unfold_payloads
      pointwise
      simp only [B_v538, Nat.zero_add]
    · refine piece_of (Val := Elt Ideal) (e := .f32) (R := 8) (C := 5632) (n := 8) (m := 256) (o1 := 0) (o2 := 4352) (fun (r : Fin 8) j => upRow x0 x1 x2 ⟨1024 + r.val - 8, by omega⟩ j) inb_S8x5632_S8x256_0_4352 _ fun r k hr hk => ?_
      unfold_payloads
      pointwise
      simp only [B_v505, Nat.zero_add]
    · refine piece_of (Val := Elt Ideal) (e := .f32) (R := 8) (C := 5632) (n := 8) (m := 256) (o1 := 0) (o2 := 1280) (fun (r : Fin 8) j => upRow x0 x1 x2 ⟨1024 + r.val - 8, by omega⟩ j) inb_S8x5632_S8x256_0_1280 _ fun r k hr hk => ?_
      unfold_payloads
      pointwise
      simp only [B_v459, Nat.zero_add]
    · refine piece_of (Val := Elt Ideal) (e := .f32) (R := 8) (C := 5632) (n := 8) (m := 256) (o1 := 0) (o2 := 4096) (fun (r : Fin 8) j => upRow x0 x1 x2 ⟨1024 + r.val - 8, by omega⟩ j) inb_S8x5632_S8x256_0_4096 _ fun r k hr hk => ?_
      unfold_payloads
      pointwise
      simp only [B_v426, Nat.zero_add]
    · refine piece_of (Val := Elt Ideal) (e := .f32) (R := 8) (C := 5632) (n := 8) (m := 256) (o1 := 0) (o2 := 1024) (fun (r : Fin 8) j => upRow x0 x1 x2 ⟨1024 + r.val - 8, by omega⟩ j) inb_S8x5632_S8x256_0_1024 _ fun r k hr hk => ?_
      unfold_payloads
      pointwise
      simp only [B_v380, Nat.zero_add]
    · refine piece_of (Val := Elt Ideal) (e := .f32) (R := 8) (C := 5632) (n := 8) (m := 256) (o1 := 0) (o2 := 3840) (fun (r : Fin 8) j => upRow x0 x1 x2 ⟨1024 + r.val - 8, by omega⟩ j) inb_S8x5632_S8x256_0_3840 _ fun r k hr hk => ?_
      unfold_payloads
      pointwise
      simp only [B_v347, Nat.zero_add]
    · refine piece_of (Val := Elt Ideal) (e := .f32) (R := 8) (C := 5632) (n := 8) (m := 256) (o1 := 0) (o2 := 768) (fun (r : Fin 8) j => upRow x0 x1 x2 ⟨1024 + r.val - 8, by omega⟩ j) inb_S8x5632_S8x256_0_768 _ fun r k hr hk => ?_
      unfold_payloads
      pointwise
      simp only [B_v301, Nat.zero_add]
    · refine piece_of (Val := Elt Ideal) (e := .f32) (R := 8) (C := 5632) (n := 8) (m := 256) (o1 := 0) (o2 := 3584) (fun (r : Fin 8) j => upRow x0 x1 x2 ⟨1024 + r.val - 8, by omega⟩ j) inb_S8x5632_S8x256_0_3584 _ fun r k hr hk => ?_
      unfold_payloads
      pointwise
      simp only [B_v268, Nat.zero_add]
    · refine piece_of (Val := Elt Ideal) (e := .f32) (R := 8) (C := 5632) (n := 8) (m := 256) (o1 := 0) (o2 := 512) (fun (r : Fin 8) j => upRow x0 x1 x2 ⟨1024 + r.val - 8, by omega⟩ j) inb_S8x5632_S8x256_0_512 _ fun r k hr hk => ?_
      unfold_payloads
      pointwise
      simp only [B_v222, Nat.zero_add]
    · refine piece_of (Val := Elt Ideal) (e := .f32) (R := 8) (C := 5632) (n := 8) (m := 256) (o1 := 0) (o2 := 3328) (fun (r : Fin 8) j => upRow x0 x1 x2 ⟨1024 + r.val - 8, by omega⟩ j) inb_S8x5632_S8x256_0_3328 _ fun r k hr hk => ?_
      unfold_payloads
      pointwise
      simp only [B_v189, Nat.zero_add]
    · refine piece_of (Val := Elt Ideal) (e := .f32) (R := 8) (C := 5632) (n := 8) (m := 256) (o1 := 0) (o2 := 256) (fun (r : Fin 8) j => upRow x0 x1 x2 ⟨1024 + r.val - 8, by omega⟩ j) inb_S8x5632_S8x256_0_256 _ fun r k hr hk => ?_
      unfold_payloads
      pointwise
      simp only [B_v143, Nat.zero_add]
    · refine piece_of (Val := Elt Ideal) (e := .f32) (R := 8) (C := 5632) (n := 8) (m := 256) (o1 := 0) (o2 := 3072) (fun (r : Fin 8) j => upRow x0 x1 x2 ⟨1024 + r.val - 8, by omega⟩ j) inb_S8x5632_S8x256_0_3072 _ fun r k hr hk => ?_
      unfold_payloads
      pointwise
      simp only [B_v110, Nat.zero_add]
    · refine piece_of (Val := Elt Ideal) (e := .f32) (R := 8) (C := 5632) (n := 8) (m := 256) (o1 := 0) (o2 := 0) (fun (r : Fin 8) j => upRow x0 x1 x2 ⟨1024 + r.val - 8, by omega⟩ j) inb_S8x5632_S8x256_0_0 _ fun r k hr hk => ?_
      unfold_payloads
      pointwise
      simp only [B_v64, Nat.zero_add]
    · refine piece_of (Val := Elt Ideal) (e := .f32) (R := 8) (C := 5632) (n := 8) (m := 256) (o1 := 0) (o2 := 2816) (fun (r : Fin 8) j => upRow x0 x1 x2 ⟨1024 + r.val - 8, by omega⟩ j) inb_S8x5632_S8x256_0_2816 _ fun r k hr hk => ?_
      unfold_payloads
      pointwise
      simp only [B_v31, Nat.zero_add]
  · exact View.cover_of_tiledL (s := S8x5632) ((kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs2).2.1.take 22) S8x256.size (by sl_kernel_rfl) _

end Cert.Ffn

end
-- ==== Proof.FfnWhole.lean ====
module

public import proofs.«01_k».proof.Proof.FfnSpec

/-!
The feed-forward call's result as one function of its seven whole arguments, row by row.
-/

@[expose] public section

noncomputable section

namespace Cert.Ffn

open Idealize.ShloMosaic Cert.KernelIdeal

/-- The up-projection of row `i` of the whole array, normalised. -/
def up (X : Vec Ideal S16384x1024 .f32) (g : Vec Ideal S1x1024 .f32) (w : Vec Ideal S1024x5632 .bf16) (i : Fin 16384)
    (j : Fin 5632) : EReal :=
  ∑ k, rms (fun l => X (ix2 i l)) (fun l => g (ix2 0 l)) k * w (ix2 k j)

/-- Row `i - n` of `U`, zero where there is no such row. -/
def before (U : Fin 16384 → Fin 5632 → EReal) (n : ℕ) (i : Fin 16384) (j : Fin 5632) : EReal :=
  if n ≤ i.val then U ⟨i.val - n, by omega⟩ j else 0

/-- The causal convolution of width three over the whole array. -/
def convAll (U : Fin 16384 → Fin 5632 → EReal) (cw : Vec Ideal S1x3x5632 .f32) (cb : Vec Ideal S1x5632 .f32) (i : Fin 16384)
    (j : Fin 5632) : EReal :=
  cb (ix2 0 j) + U i j * cw (ix3 0 2 j) + before U 2 i j * cw (ix3 0 0 j) + before U 1 i j * cw (ix3 0 1 j)

/-- The result at row `i`, column `k`. -/
def result (X : Vec Ideal S16384x1024 .f32) (g : Vec Ideal S1x1024 .f32) (w : Vec Ideal S1024x5632 .bf16)
    (cw : Vec Ideal S1x3x5632 .f32) (cb : Vec Ideal S1x5632 .f32) (wd : Vec Ideal S2816x1024 .bf16) (gf : Vec Ideal S1024 .f32)
    (i : Fin 16384) (k : Fin 1024) : EReal :=
  outRow (fun l => X (ix2 i l))
    (fun j : Fin 2816 => gated (convAll (up X g w) cw cb i ⟨j.val, by omega⟩) (convAll (up X g w) cw cb i ⟨2816 + j.val, by omega⟩))
    wd (fun l => gf (ix1 l)) k

end Cert.Ffn

end
-- ==== Proof.FfnPoints.lean ====
module

public import proofs.«01_k».proof.Proof.FfnOutA
public import proofs.«01_k».proof.Proof.FfnOutB
public import proofs.«01_k».proof.Proof.FfnWhole
public import Idealize.ShloMosaic.Lib.Claim
public import Idealize.ShloMosaic.Lib.Pipeline.ValueKit.Point

/-!
The kernel's result array at an index: each tile's blocks are places of the arguments, the eight carried rows are the last
eight rows of the tile before, so what the tiles leave is the closed form `result` of the whole arguments.
-/

@[expose] public section

set_option maxRecDepth 16384

noncomputable section

namespace Cert.Ffn

open Idealize.ShloMosaic Idealize.ShloMosaic.TcCoe Cert.KernelIdeal Cert.KernelIdeal.Gen

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem blk0 (t : Fin cfg0.N) (r k : Fin 1024) (i : Fin 16384) (hi : i.val = 1024 * t.val + r.val) :
    iblk m c 0 t (ix2 r k) = m ((c : Thread nD τ).loc main_arg0) (ix2 i k) := by
  blk_ext [iblk, V_main_arg0, idx0 t]

theorem blk1 (t : Fin cfg0.N) (k : Fin 1024) : iblk m c 1 t (ix2 0 k) = m ((c : Thread nD τ).loc main_arg1) (ix2 0 k) := by
  blk_ext [iblk, V_main_arg1, idx1 t]

theorem blk2 (t : Fin cfg0.N) (k : Fin 1024) (j : Fin 5632) :
    iblk m c 2 t (ix2 k j) = m ((c : Thread nD τ).loc main_arg2) (ix2 k j) := by
  blk_ext [iblk, V_main_arg2, idx2 t]

theorem blk3 (t : Fin cfg0.N) (a : Fin 3) (j : Fin 5632) :
    iblk m c 3 t (ix2 a j) = m ((c : Thread nD τ).loc main_arg3) (ix3 0 a j) := by
  blk_ext! [iblk, idx3 t]

theorem blk4 (t : Fin cfg0.N) (j : Fin 5632) : iblk m c 4 t (ix2 0 j) = m ((c : Thread nD τ).loc main_arg4) (ix2 0 j) := by
  blk_ext [iblk, V_main_arg4, idx4 t]

theorem blk5 (t : Fin cfg0.N) (j : Fin 2816) (k : Fin 1024) :
    iblk m c 5 t (ix2 j k) = m ((c : Thread nD τ).loc main_arg5) (ix2 j k) := by
  blk_ext [iblk, V_main_arg5, idx5 t]

theorem blk6 (t : Fin cfg0.N) (k : Fin 1024) : iblk m c 6 t (ix2 0 k) = m ((c : Thread nD τ).loc main_arg6) (ix1 k) := by
  blk_ext! [iblk, idx6 t]

/-! ## The tiles' up-projections and the carried rows -/

/-- The seven arguments. -/
abbrev argX : Vec Ideal S16384x1024 .f32 := m ((c : Thread nD τ).loc main_arg0)
abbrev argG : Vec Ideal S1x1024 .f32 := m ((c : Thread nD τ).loc main_arg1)
abbrev argW : Vec Ideal S1024x5632 .bf16 := m ((c : Thread nD τ).loc main_arg2)
abbrev argCw : Vec Ideal S1x3x5632 .f32 := m ((c : Thread nD τ).loc main_arg3)
abbrev argCb : Vec Ideal S1x5632 .f32 := m ((c : Thread nD τ).loc main_arg4)
abbrev argWd : Vec Ideal S2816x1024 .bf16 := m ((c : Thread nD τ).loc main_arg5)
abbrev argGf : Vec Ideal S1024 .f32 := m ((c : Thread nD τ).loc main_arg6)

/-- The up-projection of the whole array. -/
abbrev upA : Fin 16384 → Fin 5632 → EReal := up (argX m c) (argG m c) (argW m c)

theorem N16 (t : Fin cfg0.N) : t.val < 16 := lt_of_lt_of_eq t.isLt N_0

theorem upRow_eq (t : Fin cfg0.N) (r : Fin 1024) (j : Fin 5632) (i : Fin 16384) (hi : i.val = 1024 * t.val + r.val) :
    upRow (iblk m c 0 t) (iblk m c 1 t) (iblk m c 2 t) r j = upA m c i j := by
  unfold upRow upA up
  refine Finset.sum_congr rfl fun k _ => ?_
  rw [show (fun l => iblk m c 0 t (ix2 r l)) = fun l => argX m c (ix2 i l) from funext fun l => blk0 m c t r l i hi,
    show (fun l => iblk m c 1 t (ix2 0 l)) = fun l => argG m c (ix2 0 l) from funext fun l => blk1 m c t l, blk2 m c t k j]

/-- What a point leaves in the carried rows: the last eight rows of its own tile. -/
theorem tail_at (t : Fin cfg0.N) (r : Fin 8) (j : Fin 5632) (i : Fin 16384) (hi : i.val = 1024 * t.val + (1024 + r.val - 8)) :
    (outsAt0 m c t.val t.isLt).2 (ix2 r j) = upA m c i j := by
  by_cases h0 : t.val % 16 = 0
  · rw [outsAt0_A m c t h0]
    dsimp only
    rw [A_tail]
    exact (upRow_eq m c t _ j i hi)
  · rw [outsAt0_B m c t h0]
    dsimp only
    rw [B_tail]
    exact (upRow_eq m c t _ j i hi)

/-- The rows carried into a point: zeros at the first, then the last eight rows of the tile before. -/
def carried (t : Fin cfg0.N) (r : Fin 8) (j : Fin 5632) : EReal :=
  if h : 0 < t.val then upA m c ⟨1024 * t.val + r.val - 8, by have := N16 t; omega⟩ j else 0

theorem out_at (t : Fin cfg0.N) (r k : Fin 1024) : (outsAt0 m c t.val t.isLt).1 (ix2 r k)
    = ffnOut (carried m c t) (iblk m c 0 t) (iblk m c 1 t) (iblk m c 2 t) (iblk m c 3 t) (iblk m c 4 t) (iblk m c 5 t) (iblk m c 6 t) r k := by
  have hN := N16 t
  by_cases h0 : t.val % 16 = 0
  · rw [outsAt0_A m c t h0]
    dsimp only
    rw [A_out]
    rw [show carried m c t = fun _ _ => 0 from funext fun r => funext fun j => dif_neg (by omega)]
  · rw [outsAt0_B m c t h0]
    dsimp only
    rw [B_out]
    refine congrArg (fun T => ffnOut T _ _ _ _ _ _ _ r k) (funext fun r => funext fun j => ?_)
    have h1 : t.val - 1 < cfg0.N := Nat.lt_of_le_of_lt (Nat.sub_le _ _) t.isLt
    rw [carried, dif_pos (by omega)]
    exact tail_at m c ⟨t.val - 1, h1⟩ r j _ (by show 1024 * t.val + r.val - 8 = 1024 * (t.val - 1) + (1024 + r.val - 8); omega)

theorem back_eq (t : Fin cfg0.N) (r : Fin 1024) (j : Fin 5632) (n o : ℕ) (hn : n + o = 8) (i : Fin 16384)
    (hi : i.val = 1024 * t.val + r.val) :
    back (carried m c t) (upRow (iblk m c 0 t) (iblk m c 1 t) (iblk m c 2 t)) o (by omega) r j = before (upA m c) n i j := by
  have hN := N16 t
  unfold back before
  by_cases h : o + r.val < 8
  · rw [dif_pos h, carried]
    by_cases ht : 0 < t.val
    · rw [dif_pos ht, if_pos (by omega)]
      exact congrArg (fun q => upA m c q j) (Fin.ext (by show 1024 * t.val + (o + r.val) - 8 = i.val - n; omega))
    · rw [dif_neg ht, if_neg (by omega)]
  · rw [dif_neg h, if_pos (by omega)]
    exact upRow_eq m c t _ j _ (by show i.val - n = 1024 * t.val + (o + r.val - 8); omega)

theorem conv_eq (t : Fin cfg0.N) (r : Fin 1024) (j : Fin 5632) (i : Fin 16384) (hi : i.val = 1024 * t.val + r.val) :
    conv (carried m c t) (upRow (iblk m c 0 t) (iblk m c 1 t) (iblk m c 2 t)) (iblk m c 3 t) (iblk m c 4 t) r j
      = convAll (upA m c) (argCw m c) (argCb m c) i j := by
  unfold conv convAll
  rw [back_eq m c t r j 2 6 rfl i hi, back_eq m c t r j 1 7 rfl i hi, upRow_eq m c t r j i hi, blk4 m c t j, blk3 m c t 0 j,
    blk3 m c t 1 j, blk3 m c t 2 j]

theorem ffn_eq (t : Fin cfg0.N) (r k : Fin 1024) (i : Fin 16384) (hi : i.val = 1024 * t.val + r.val) :
    ffnOut (carried m c t) (iblk m c 0 t) (iblk m c 1 t) (iblk m c 2 t) (iblk m c 3 t) (iblk m c 4 t) (iblk m c 5 t) (iblk m c 6 t) r k
      = result (argX m c) (argG m c) (argW m c) (argCw m c) (argCb m c) (argWd m c) (argGf m c) i k := by
  unfold ffnOut result outRow
  refine congrArg₂ (fun x g => rms x g k) (funext fun l => ?_) (funext fun l => blk6 m c t l)
  refine congrArg₂ (· + ·) (blk0 m c t r l i hi) (Finset.sum_congr rfl fun j _ => ?_)
  refine congrArg₂ (· * ·) ?_ (blk5 m c t j l)
  exact congrArg₂ gated (conv_eq m c t r _ i hi) (conv_eq m c t r _ i hi)

/-- The kernel's result at an index. -/
theorem kernel_result (i : Fin 16384) (k : Fin 1024) : Cert.KernelIdeal.Value.G7 m c (ix2 i k)
    = result (argX m c) (argG m c) (argW m c) (argCw m c) (argCb m c) (argWd m c) (argGf m c) i k := by
  have hi := i.isLt
  have hk := k.isLt
  have hp : Cert.KernelIdeal.Value.pt7Of (ix2 i k) = i.val / 1024 := by
    show 1 * (i.val / 1024 - 0) + 1 * (k.val / 1024 - 0) = i.val / 1024
    omega
  have hN : i.val / 1024 < cfg0.N := lt_of_lt_of_eq (by omega : i.val / 1024 < 16) N_0.symm
  have hl : Cert.KernelIdeal.Value.loc7Of (ix2 i k) = ix2 (⟨i.val % 1024, Nat.mod_lt _ (by decide)⟩ : Fin 1024) k := by
    funext a
    match a with
    | ⟨0, _⟩ => rfl
    | ⟨1, _⟩ => exact Fin.ext (Nat.mod_eq_of_lt hk)
  unfold Cert.KernelIdeal.Value.G7
  simp only [hp, hl]
  rw [dif_pos hN, ← Cert.KernelIdeal.Value.outsAt0_sweep m c (i.val / 1024) hN]
  exact (out_at m c ⟨i.val / 1024, hN⟩ _ k).trans
    (ffn_eq m c ⟨i.val / 1024, hN⟩ _ k i (by show i.val = 1024 * (i.val / 1024) + i.val % 1024; omega))

end Cert.Ffn

end
-- ==== Proof.FfnRef.lean ====
module

public import proofs.«01_k».proof.Proof.FfnWhole
public import proofs.«01_k».proof.Proof.Gen.ReferenceIdeal.Read
public import Idealize.ShloMosaic.Lib.KernelVsHost

/-!
The reference at an index: each stage read off its operands, up to the closed form `result`.
-/

@[expose] public section

set_option maxRecDepth 16384

noncomputable section

namespace Cert.Ffn

open Idealize.ShloMosaic Cert.ReferenceIdeal Cert.ReferenceIdeal.Gen Cert.ReferenceIdeal.Read

variable (x0 : Vec Ideal S16384x1024 .f32) (x1 : Vec Ideal S1x1024 .f32) (x2 : Vec Ideal S1024x5632 .bf16)
  (x3 : Vec Ideal S1x3x5632 .f32) (x4 : Vec Ideal S1x5632 .f32) (x5 : Vec Ideal S2816x1024 .bf16) (x6 : Vec Ideal S1024 .f32)

theorem ref_sq (i : S16384.Idx) : val_main_v2 (F := Ideal) x0 i = ∑ l : Fin 1024, x0 (ix2 (i 0) l) * x0 (ix2 (i 0) l) := by
  rw [val_main_v2_apply, val_main_cst_apply]
  refine (congrArg (· + _) (Ideal.ofBits_zero .f32)).trans ((zero_add _).trans (Finset.sum_congr rfl fun l _ => ?_))
  rw [val_main_v1_apply]
  have e : idx_main_v2 i l = ix2 (i 0) l := by
    funext a
    match a with
    | ⟨0, _⟩ => rfl
    | ⟨1, _⟩ => rfl
  rw [e]
  rfl

theorem ref_norm (i : Fin 16384) (k : Fin 1024) : val_main_v13 (F := Ideal) x0 x1 (ix2 i k)
    = rms (fun l => x0 (ix2 i l)) (fun l => x1 (ix2 0 l)) k := by
  rw [val_main_v13_apply, val_main_v12_apply, val_main_v11_apply, val_main_v0_apply, val_main_v10_apply, val_main_v9_apply,
    val_main_v8_apply, val_main_v7_apply, val_main_v6_apply, val_main_v5_apply, val_main_v4_apply, val_main_v3_apply, ref_sq,
    val_main_cst_0_apply, val_main_cst_1_apply]
  have e : idx_main_v0 (idx_main_v11 (idx_main_v12 (ix2 i k))) = ix2 0 k := by
    funext a
    match a with
    | ⟨0, _⟩ => rfl
    | ⟨1, _⟩ => exact Fin.ext (Nat.mod_eq_of_lt k.isLt)
  rw [e]
  rfl

theorem ref_up (i : Fin 16384) (j : Fin 5632) : val_main_v17 (F := Ideal) x0 x1 x2 (ix2 i j) = up x0 x1 x2 i j := by
  rw [val_main_v17_apply]
  refine Finset.sum_congr rfl fun k _ => ?_
  have el : lidx_main_v17 (ix2 i j) k = ix2 i k := by
    funext a
    match a with
    | ⟨0, _⟩ => rfl
    | ⟨1, _⟩ => rfl
  have er : ridx_main_v17 (ix2 i j) k = ix2 k j := by
    funext a
    match a with
    | ⟨0, _⟩ => rfl
    | ⟨1, _⟩ => rfl
  rw [el, er, ref_norm, val_main_v16_apply]
  rfl

/-- The padded rows: two rows of zeros in front. -/
theorem ref_pad (p : Fin 16386) (j : Fin 5632) : val_main_v18 (F := Ideal) x0 x1 x2 (ix2 p j)
    = if h : 2 ≤ p.val then up x0 x1 x2 ⟨p.val - 2, by omega⟩ j else 0 := by
  unfold val_main_v18
  split
  case isTrue h =>
    rw [← ref_up]
    refine pad_apply_of_inside _ _ _ _ _ _ _ _ (ix2 (⟨p.val - 2, by omega⟩ : Fin 16384) j) fun a => ?_
    match a with
    | ⟨0, _⟩ => show p.val = 2 + (p.val - 2) * (0 + 1); omega
    | ⟨1, _⟩ => show j.val = 0 + j.val * (0 + 1); omega
  case isFalse h =>
    rw [pad_apply_of_not_inside _ _ _ _ _ _ _ _ (0 : Fin 2) (fun q => h q.1), val_main_call0_v0_apply, val_main_c_apply]
    show ((((0#32 : BitVec 32).toInt : ℤ) : ℝ) : EReal) = 0
    simp

/-- The three shifted reads of the padded rows. -/
theorem ref_shift0 (i : Fin 16384) (j : Fin 5632) : val_main_v19 (F := Ideal) x0 x1 x2 (ix2 i j) = before (up x0 x1 x2) 2 i j := by
  rw [val_main_v19_apply]
  have e : idx_main_v19 (ix2 i j) = ix2 (⟨i.val, by omega⟩ : Fin 16386) j := by
    funext a
    match a with
    | ⟨0, _⟩ => rfl
    | ⟨1, _⟩ => rfl
  rw [e, ref_pad]
  rfl

theorem ref_shift1 (i : Fin 16384) (j : Fin 5632) : val_main_v27 (F := Ideal) x0 x1 x2 (ix2 i j) = before (up x0 x1 x2) 1 i j := by
  rw [val_main_v27_apply]
  have e : idx_main_v27 (ix2 i j) = ix2 (⟨1 + i.val, by omega⟩ : Fin 16386) j := by
    funext a
    match a with
    | ⟨0, _⟩ => exact Fin.ext (by show _ = 1 + i.val; first | rfl | (simp only [Nat.add_comm]; rfl))
    | ⟨1, _⟩ => rfl
  rw [e, ref_pad]
  unfold before
  by_cases h : 1 ≤ i.val
  · rw [dif_pos (by show 2 ≤ 1 + i.val; omega), if_pos h]
    exact congrArg (fun q => up x0 x1 x2 q j) (Fin.ext (by show 1 + i.val - 2 = i.val - 1; omega))
  · rw [dif_neg (by show ¬2 ≤ 1 + i.val; omega), if_neg h]

theorem ref_shift2 (i : Fin 16384) (j : Fin 5632) : val_main_v34 (F := Ideal) x0 x1 x2 (ix2 i j) = up x0 x1 x2 i j := by
  rw [val_main_v34_apply]
  have e : idx_main_v34 (ix2 i j) = ix2 (⟨2 + i.val, by omega⟩ : Fin 16386) j := by
    funext a
    match a with
    | ⟨0, _⟩ => exact Fin.ext (by show _ = 2 + i.val; first | rfl | (simp only [Nat.add_comm]; rfl))
    | ⟨1, _⟩ => rfl
  rw [e, ref_pad, dif_pos (by show 2 ≤ 2 + i.val; omega)]
  exact congrArg (fun q => up x0 x1 x2 q j) (Fin.ext (by show 2 + i.val - 2 = i.val; omega))

theorem ref_weight (a : Fin 3) (j : Fin 5632) : val_main_v14 (F := Ideal) x3 (ix2 a j) = x3 (ix3 0 a j) := by
  rw [val_main_v14_apply]
  refine congrArg x3 ?_
  have hj := j.isLt
  have ha := a.isLt
  funext b
  match b with
  | ⟨0, _⟩ => rfl
  | ⟨1, _⟩ => exact Fin.ext (by show (a.val * 5632 + j.val) / 5632 % 3 = a.val; omega)
  | ⟨2, _⟩ => exact Fin.ext (by show (a.val * 5632 + j.val) % 5632 = j.val; omega)

theorem ref_w0 (i : Fin 16384) (j : Fin 5632) : val_main_v23 (F := Ideal) x3 (ix2 i j) = x3 (ix3 0 0 j) := by
  rw [val_main_v23_apply, val_main_v22_apply, val_main_v21_apply, val_main_v20_apply, ← ref_weight x3 0 j]
  refine congrArg (val_main_v14 (F := Ideal) x3) ?_
  funext b
  match b with
  | ⟨0, _⟩ => rfl
  | ⟨1, _⟩ => exact Fin.ext (Nat.mod_eq_of_lt j.isLt)

theorem ref_w1 (i : Fin 16384) (j : Fin 5632) : val_main_v31 (F := Ideal) x3 (ix2 i j) = x3 (ix3 0 1 j) := by
  rw [val_main_v31_apply, val_main_v30_apply, val_main_v29_apply, val_main_v28_apply, ← ref_weight x3 1 j]
  refine congrArg (val_main_v14 (F := Ideal) x3) ?_
  funext b
  match b with
  | ⟨0, _⟩ => rfl
  | ⟨1, _⟩ => exact Fin.ext (Nat.mod_eq_of_lt j.isLt)

theorem ref_w2 (i : Fin 16384) (j : Fin 5632) : val_main_v38 (F := Ideal) x3 (ix2 i j) = x3 (ix3 0 2 j) := by
  rw [val_main_v38_apply, val_main_v37_apply, val_main_v36_apply, val_main_v35_apply, ← ref_weight x3 2 j]
  refine congrArg (val_main_v14 (F := Ideal) x3) ?_
  funext b
  match b with
  | ⟨0, _⟩ => rfl
  | ⟨1, _⟩ => exact Fin.ext (Nat.mod_eq_of_lt j.isLt)

theorem ref_bias (i : Fin 16384) (j : Fin 5632) : val_main_v42 (F := Ideal) x4 (ix2 i j) = x4 (ix2 0 j) := by
  rw [val_main_v42_apply, val_main_v41_apply, val_main_v15_apply]
  refine congrArg x4 ?_
  funext b
  match b with
  | ⟨0, _⟩ => rfl
  | ⟨1, _⟩ => exact Fin.ext (Nat.mod_eq_of_lt j.isLt)

/-- The reference adds the three taps to zero, oldest first, then the bias: the same four terms. -/
theorem ref_conv (i : Fin 16384) (j : Fin 5632) :
    val_main_v43 (F := Ideal) x0 x1 x2 x3 x4 (ix2 i j) = convAll (up x0 x1 x2) x3 x4 i j := by
  rw [val_main_v43_apply, val_main_v40_apply, val_main_v33_apply, val_main_v26_apply, val_main_v24_apply, val_main_v32_apply,
    val_main_v39_apply, ref_shift0, ref_shift1, ref_shift2, ref_w0, ref_w1, ref_w2, ref_bias, val_main_v25_apply,
    val_main_cst_2_apply]
  simp only [Ideal.addf_def, Ideal.mulf_def]
  rw [show FloatOps.ofBits (F := Ideal) .f32 0x00000000#32 = (0 : EReal) from Ideal.ofBits_zero .f32, zero_add, convAll,
    add_comm (_ + _) (up x0 x1 x2 i j * _), ← add_assoc, ← add_assoc]

theorem ref_hidden (i : Fin 16384) (j : Fin 2816) : val_main_v53 (F := Ideal) x0 x1 x2 x3 x4 (ix2 i j)
    = gated (convAll (up x0 x1 x2) x3 x4 i ⟨j.val, by omega⟩) (convAll (up x0 x1 x2) x3 x4 i ⟨2816 + j.val, by omega⟩) := by
  have e0 : idx_main_v44 (ix2 i j) = ix2 i (⟨j.val, by omega⟩ : Fin 5632) := by
    funext a
    match a with
    | ⟨0, _⟩ => rfl
    | ⟨1, _⟩ => rfl
  have e1 : idx_main_v45 (ix2 i j) = ix2 i (⟨2816 + j.val, by omega⟩ : Fin 5632) := by
    funext a
    match a with
    | ⟨0, _⟩ => rfl
    | ⟨1, _⟩ => exact Fin.ext (by show _ = 2816 + j.val; first | rfl | (simp only [Nat.add_comm]; rfl))
  rw [val_main_v53_apply, val_main_v52_apply, val_main_v51_apply, val_main_v50_apply, val_main_v49_apply, val_main_v48_apply,
    val_main_v47_apply, val_main_v46_apply, val_main_v44_apply, val_main_v45_apply, e0, e1, ref_conv, ref_conv,
    val_main_cst_3_apply, val_main_cst_4_apply, gated]
  simp only [Ideal.mulf_def, Ideal.erf_def, Ideal.hostUnary_erfc_def, Ideal.hostNegf_def, Ideal.negf_def, neg_mul, Ideal.erfc_neg]
  rfl

theorem ref_down (i : Fin 16384) (k : Fin 1024) : val_main_v56 (F := Ideal) x0 x1 x2 x3 x4 x5 (ix2 i k)
    = x0 (ix2 i k) + ∑ j : Fin 2816, gated (convAll (up x0 x1 x2) x3 x4 i ⟨j.val, by omega⟩)
        (convAll (up x0 x1 x2) x3 x4 i ⟨2816 + j.val, by omega⟩) * x5 (ix2 j k) := by
  rw [val_main_v56_apply, val_main_v55_apply]
  refine congrArg (x0 (ix2 i k) + ·) (Finset.sum_congr rfl fun j _ => ?_)
  have el : lidx_main_v55 (ix2 i k) j = ix2 i j := by
    funext a
    match a with
    | ⟨0, _⟩ => rfl
    | ⟨1, _⟩ => rfl
  have er : ridx_main_v55 (ix2 i k) j = ix2 j k := by
    funext a
    match a with
    | ⟨0, _⟩ => rfl
    | ⟨1, _⟩ => rfl
  rw [el, er, ref_hidden, val_main_v54_apply]
  rfl

theorem ref_final_sq (i : S16384.Idx) : val_main_v58 (F := Ideal) x0 x1 x2 x3 x4 x5 i
    = ∑ l : Fin 1024, val_main_v56 (F := Ideal) x0 x1 x2 x3 x4 x5 (ix2 (i 0) l) * val_main_v56 (F := Ideal) x0 x1 x2 x3 x4 x5 (ix2 (i 0) l) := by
  rw [val_main_v58_apply, val_main_cst_5_apply]
  refine (congrArg (· + _) (Ideal.ofBits_zero .f32)).trans ((zero_add _).trans (Finset.sum_congr rfl fun l _ => ?_))
  rw [val_main_v57_apply]
  have e : idx_main_v58 i l = ix2 (i 0) l := by
    funext a
    match a with
    | ⟨0, _⟩ => rfl
    | ⟨1, _⟩ => rfl
  rw [e]
  rfl

/-- The reference's result at an index. -/
theorem ref_result (i : Fin 16384) (k : Fin 1024) :
    val_main_v69 (F := Ideal) x0 x1 x2 x3 x4 x5 x6 (ix2 i k) = result x0 x1 x2 x3 x4 x5 x6 i k := by
  rw [val_main_v69_apply, val_main_v68_apply, val_main_v67_apply, val_main_v66_apply, val_main_v65_apply, val_main_v64_apply,
    val_main_v63_apply, val_main_v62_apply, val_main_v61_apply, val_main_v60_apply, val_main_v59_apply, ref_final_sq,
    val_main_cst_6_apply, val_main_cst_7_apply, result, outRow, rms]
  have e5 : ∀ l : Fin 1024, (ix2 (idx_main_v59 (idx_main_v65 (ix2 i k)) 0) l : S16384x1024.Idx) = ix2 i l := fun _ => rfl
  simp only [e5, ref_down]
  have e : idx_main_v67 (idx_main_v68 (ix2 i k)) = ix1 k := by
    funext a
    match a with
    | ⟨0, _⟩ => rfl
  rw [e]
  rfl

end Cert.Ffn

end
-- ==== Proof.lean ====
/- The claims of the two calls put together. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.PrepKernel2
public import proofs.«01_k».proof.Proof.PrepKernel2Ideal
public import proofs.«01_k».proof.Proof.Gen.Reference2Ideal.Run
public import proofs.«01_k».proof.Proof.Gen.Reference2Ideal.Read
public import proofs.«01_k».proof.Proof.PrepRun
public import proofs.«01_k».proof.Proof.PrepRef
public import proofs.«01_k».proof.Proof.FfnPoints
public import proofs.«01_k».proof.Proof.FfnRef
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine ((h c).1.trans (Cert.ReferenceIdeal.Read.val_main_v69_eq m' c)).trans ?_
  obtain ⟨h0, h1, h2, h3, h4, h5, h6⟩ := hagree c
  funext y
  obtain ⟨i, k, rfl⟩ : ∃ (i : Fin 16384) (k : Fin 1024), y = ix2 i k :=
    ⟨y 0, y 1, funext fun a => match a with | ⟨0, _⟩ => rfl | ⟨1, _⟩ => rfl⟩
  rw [h0, h1, h2, h3, h4, h5, h6]
  exact (Cert.Ffn.ref_result ..).trans (Cert.Ffn.kernel_result m c i k).symm

theorem quiescent_Reference2Ideal : quiescent_Reference2Ideal := fun m ρ _ =>
  (θ_run Cert.Reference2Ideal.defs _ _).mono (fun r h => ⟨fun c => (h c).2.2.2.2.2.2.2.2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, _, _, _, _, _, _, _, Cert.Prep.kernel_run m ρ, ?_⟩
  refine (θ_run Cert.Reference2Ideal.defs _ _).mono (fun _ h c => ?_) (Cert.Reference2Ideal.Value.run (F := Ideal) m' ρ')
  obtain ⟨r0, r1, r2, r3, r4, r5, r6, r7, hargs⟩ := h c
  obtain ⟨h0, h1, h2, h3, h4, h5, h6, h7, h8⟩ := hagree c
  refine ⟨?_, ?_, ?_, ?_, ?_, ?_, ?_, ?_, hargs⟩
  · rw [r0, h0, h1, h4]
    exact (Cert.Reference2Ideal.Read.val_main_v40_eq (F := Ideal) _ _ _).trans (Cert.Prep.all_keys _ _ _)
  · rw [r1, h0, h1, h4]
    exact (Cert.Reference2Ideal.Read.val_main_v41_eq (F := Ideal) _ _ _).trans (Cert.Prep.all_values _ _ _)
  · rw [r2, h2]
    exact (Cert.Reference2Ideal.Read.val_main_v43_eq (F := Ideal) _).trans (Cert.Prep.all_in _)
  · rw [r3, h5]
    exact (Cert.Reference2Ideal.Read.val_main_v45_eq (F := Ideal) _).trans (Cert.Prep.all_up _)
  · rw [r4, h6]
    exact (Cert.Reference2Ideal.Read.val_main_v47_eq (F := Ideal) _).trans (Cert.Prep.all_up' _)
  · rw [r5, h7]
    exact (Cert.Reference2Ideal.Read.val_main_v49_eq (F := Ideal) _).trans (Cert.Prep.all_up'' _)
  · rw [r6, h8]
    exact (Cert.Reference2Ideal.Read.val_main_v51_eq (F := Ideal) _).trans (Cert.Prep.all_out _)
  · rw [r7, h3]
    exact (Cert.Reference2Ideal.Read.val_main_v52_eq (F := Ideal) _).trans (Cert.Prep.all_pool _)

/-- The ten claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    fun m ρ _ => Cert.Kernel.Gen.frame m ρ, fun m ρ _ => Cert.KernelIdeal.Gen.frame m ρ, quiescent_ReferenceIdeal,
    fun m ρ _ => Cert.Kernel2.Prep.whole_frame m ρ, fun m ρ _ => Cert.Kernel2Ideal.Prep.whole_frame m ρ, quiescent_Reference2Ideal,
    (trivial : preserves_Kernel_KernelIdeal), algebraic_KernelIdeal_ReferenceIdeal,
    (trivial : preserves_Kernel2_Kernel2Ideal), algebraic_Kernel2Ideal_Reference2Ideal⟩

end Cert.Proof

end
